-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "w4" .f32 0x3F4CCCCD#32 ((4 / 5 : ℝ) : EReal)
  ∧ IdealRules.named_const.Statement Cert.KernelIdeal.κ "w1" .f32 0x3E4CCCCD#32 ((1 / 5 : ℝ) : EReal)
  ∧ IdealRules.named_const.Statement Cert.KernelIdeal.κ "w3" .f32 0x3F19999A#32 ((3 / 5 : ℝ) : EReal)
  ∧ IdealRules.named_const.Statement Cert.KernelIdeal.κ "w2" .f32 0x3ECCCCCD#32 ((2 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x100 : Shape := ⟨2, ![16384, 100]⟩
abbrev S105 : Shape := ⟨1, ![105]⟩
abbrev S16x100 : Shape := ⟨2, ![16, 100]⟩
abbrev S100x16 : Shape := ⟨2, ![100, 16]⟩
abbrev S1x1600 : Shape := ⟨2, ![1, 1600]⟩
abbrev S100x1 : Shape := ⟨2, ![100, 1]⟩
abbrev S100x15 : Shape := ⟨2, ![100, 15]⟩
abbrev S1600 : Shape := ⟨1, ![1600]⟩
abbrev S_ : Shape := ⟨0, ![]⟩
abbrev S100 : Shape := ⟨1, ![100]⟩
abbrev S100x1600 : Shape := ⟨2, ![100, 1600]⟩
abbrev S16384x1600 : Shape := ⟨2, ![16384, 1600]⟩
abbrev S1 : Shape := ⟨1, ![1]⟩
abbrev S2048x100 : Shape := ⟨2, ![2048, 100]⟩
abbrev S1x100 : Shape := ⟨2, ![1, 100]⟩
abbrev S512x100 : Shape := ⟨2, ![512, 100]⟩
abbrev S512x1600 : Shape := ⟨2, ![512, 1600]⟩

abbrev nBuf : Space → Nat
  | .hbm => 37
  | .vmem => 10
  | .smem => 2
  | _ => 0

abbrev bufTy : (tb : Table) → Fin (tcTables nBuf tb) → BufTy
  | .hbm, ⟨0, _⟩ => ⟨S16384x100, .f32⟩
  | .hbm, ⟨1, _⟩ => ⟨S105, .i32⟩
  | .hbm, ⟨2, _⟩ => ⟨S105, .i32⟩
  | .hbm, ⟨3, _⟩ => ⟨S16x100, .f32⟩
  | .hbm, ⟨4, _⟩ => ⟨S100x16, .f32⟩
  | .hbm, ⟨5, _⟩ => ⟨S1x1600, .f32⟩
  | .hbm, ⟨6, _⟩ => ⟨S100x1, .f32⟩
  | .hbm, ⟨7, _⟩ => ⟨S100x15, .f32⟩
  | .hbm, ⟨8, _⟩ => ⟨S100x16, .f32⟩
  | .hbm, ⟨9, _⟩ => ⟨S1x1600, .f32⟩
  | .hbm, ⟨10, _⟩ => ⟨S1600, .i32⟩
  | .hbm, ⟨11, _⟩ => ⟨S1x1600, .i32⟩
  | .hbm, ⟨12, _⟩ => ⟨S_, .i32⟩
  | .hbm, ⟨13, _⟩ => ⟨S_, .i32⟩
  | .hbm, ⟨14, _⟩ => ⟨S1x1600, .i32⟩
  | .hbm, ⟨15, _⟩ => ⟨S1x1600, .i32⟩
  | .hbm, ⟨16, _⟩ => ⟨S1x1600, .i32⟩
  | .hbm, ⟨17, _⟩ => ⟨S_, .i32⟩
  | .hbm, ⟨18, _⟩ => ⟨S1x1600, .i32⟩
  | .hbm, ⟨19, _⟩ => ⟨S1x1600, .i1⟩
  | .hbm, ⟨20, _⟩ => ⟨S1x1600, .i32⟩
  | .hbm, ⟨21, _⟩ => ⟨S1x1600, .i32⟩
  | .hbm, ⟨22, _⟩ => ⟨S_, .i32⟩
  | .hbm, ⟨23, _⟩ => ⟨S1x1600, .i32⟩
  | .hbm, ⟨24, _⟩ => ⟨S1x1600, .i1⟩
  | .hbm, ⟨25, _⟩ => ⟨S1x1600, .i1⟩
  | .hbm, ⟨26, _⟩ => ⟨S_, .i32⟩
  | .hbm, ⟨27, _⟩ => ⟨S1x1600, .i32⟩
  | .hbm, ⟨28, _⟩ => ⟨S1x1600, .i32⟩
  | .hbm, ⟨29, _⟩ => ⟨S1x1600, .i32⟩
  | .hbm, ⟨30, _⟩ => ⟨S100, .i32⟩
  | .hbm, ⟨31, _⟩ => ⟨S100x1, .i32⟩
  | .hbm, ⟨32, _⟩ => ⟨S100x1600, .i32⟩
  | .hbm, ⟨33, _⟩ => ⟨S100x1600, .i32⟩
  | .hbm, ⟨34, _⟩ => ⟨S100x1600, .i1⟩
  | .hbm, ⟨35, _⟩ => ⟨S100x1600, .f32⟩
  | .hbm, ⟨36, _⟩ => ⟨S16384x1600, .f32⟩
  | .local _ .vmem, ⟨0, _⟩ => ⟨S16384x100, .f32⟩
  | .local _ .vmem, ⟨1, _⟩ => ⟨S16x100, .f32⟩
  | .local _ .vmem, ⟨2, _⟩ => ⟨S16384x100, .f32⟩
  | .local _ .vmem, ⟨3, _⟩ => ⟨S512x100, .f32⟩
  | .local _ .vmem, ⟨4, _⟩ => ⟨S512x100, .f32⟩
  | .local _ .vmem, ⟨5, _⟩ => ⟨S100x1600, .f32⟩
  | .local _ .vmem, ⟨6, _⟩ => ⟨S1x1600, .f32⟩
  | .local _ .vmem, ⟨7, _⟩ => ⟨S1x1600, .f32⟩
  | .local _ .vmem, ⟨8, _⟩ => ⟨S512x1600, .f32⟩
  | .local _ .vmem, ⟨9, _⟩ => ⟨S512x1600, .f32⟩
  | .local _ .smem, ⟨0, _⟩ => ⟨S105, .i32⟩
  | .local _ .smem, ⟨1, _⟩ => ⟨S105, .i32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_call1_v0 : Ref sig .tc := ⟨.hbm, 13, rfl⟩
abbrev main_call0_call1_v1 : Ref sig .tc := ⟨.hbm, 14, rfl⟩
abbrev main_call0_call1_v2 : Ref sig .tc := ⟨.hbm, 15, rfl⟩
abbrev main_call0_call1_v3 : Ref sig .tc := ⟨.hbm, 16, rfl⟩
abbrev main_call0_call1_v4 : Ref sig .tc := ⟨.hbm, 17, rfl⟩
abbrev main_call0_call1_v5 : Ref sig .tc := ⟨.hbm, 18, rfl⟩
abbrev main_call0_call1_v6 : Ref sig .tc := ⟨.hbm, 19, rfl⟩
abbrev main_call0_call1_v7 : Ref sig .tc := ⟨.hbm, 20, rfl⟩
abbrev main_call0_call1_v8 : Ref sig .tc := ⟨.hbm, 21, rfl⟩
abbrev main_call0_call1_c : Ref sig .tc := ⟨.hbm, 22, rfl⟩
abbrev main_call0_call1_v9 : Ref sig .tc := ⟨.hbm, 23, rfl⟩
abbrev main_call0_call1_v10 : Ref sig .tc := ⟨.hbm, 24, rfl⟩
abbrev main_call0_call1_v11 : Ref sig .tc := ⟨.hbm, 25, rfl⟩
abbrev main_call0_call1_c_0 : Ref sig .tc := ⟨.hbm, 26, rfl⟩
abbrev main_call0_call1_v12 : Ref sig .tc := ⟨.hbm, 27, rfl⟩
abbrev main_call0_call1_v13 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_v0 : Ref sig .tc := ⟨.hbm, 36, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c105_i32 : BitVec 32 := 105#32
  let v4 : BitVec 32 := Scalar.addi c0_i32 c105_i32
  let c1_i32 : BitVec 32 := 1#32
  ⟨c0_i32, v4, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v109 : Index := Scalar.indexCast arg5
  ![v109.toNat]
@[reducible] def k0_t2_loop : Scf.Loop 32 :=
  let c0_i32_81 : BitVec 32 := 0#32
  let c4_i32 : BitVec 32 := 4#32
  let v133 : BitVec 32 := Scalar.addi c0_i32_81 c4_i32
  let c1_i32_82 : BitVec 32 := 1#32
  ⟨c0_i32_81, v133, c1_i32_82⟩
def k0_off2 (v112 : BitVec 32) (k0_t2 : Fin k0_t2_loop.trips) : Fin 2 → Nat :=
  let c0_i32_81 : BitVec 32 := 0#32
  let c1_i32_82 : BitVec 32 := 1#32
  let arg6 : BitVec 32 := Scf.iv c0_i32_81 c1_i32_82 k0_t2
  let c0_i32_84 : BitVec 32 := 0#32
  let v135 : BitVec 1 := Scalar.cmpi .sgt arg6 c0_i32_84
  let v136 : BitVec 32 := Scalar.extui v135
  let c0_i32_85 : BitVec 32 := 0#32
  let v137 : BitVec 1 := Scalar.cmpi .slt arg6 c0_i32_85
  let v138 : BitVec 32 := Scalar.extui v137
  let v139 : BitVec 32 := Scalar.subi v136 v138
  let c0_i32_75 : BitVec 32 := 0#32
  let v117 : BitVec 1 := Scalar.cmpi .sgt v112 c0_i32_75
  let v118 : BitVec 32 := Scalar.extui v117
  let c0_i32_76 : BitVec 32 := 0#32
  let v119 : BitVec 1 := Scalar.cmpi .slt v112 c0_i32_76
  let v120 : BitVec 32 := Scalar.extui v119
  let v121 : BitVec 32 := Scalar.subi v118 v120
  let c2048_i32_74 : BitVec 32 := 2048#32
  let c0_i32_77 : BitVec 32 := 0#32
  let v122 : BitVec 1 := Scalar.cmpi .sgt c2048_i32_74 c0_i32_77
  let v123 : BitVec 32 := Scalar.extui v122
  let c0_i32_78 : BitVec 32 := 0#32
  let v124 : BitVec 1 := Scalar.cmpi .slt c2048_i32_74 c0_i32_78
  let v125 : BitVec 32 := Scalar.extui v124
  let v126 : BitVec 32 := Scalar.subi v123 v125
  let v127 : BitVec 1 := Scalar.cmpi .ne v121 v126
  let v128 : BitVec 32 := Scalar.remsi v112 c2048_i32_74
  let c0_i32_79 : BitVec 32 := 0#32
  let v129 : BitVec 1 := Scalar.cmpi .ne v128 c0_i32_79
  let v130 : BitVec 1 := Scalar.andi v127 v129
  let v116 : BitVec 32 := Scalar.divsi v112 c2048_i32_74
  let c1_i32_80 : BitVec 32 := 1#32
  let v131 : BitVec 32 := Scalar.subi v116 c1_i32_80
  let v132 : BitVec 32 := Scalar.select v130 v131 v116
  let c0_i32_86 : BitVec 32 := 0#32
  let v140 : BitVec 1 := Scalar.cmpi .sgt v132 c0_i32_86
  let v141 : BitVec 32 := Scalar.extui v140
  let c0_i32_87 : BitVec 32 := 0#32
  let v142 : BitVec 1 := Scalar.cmpi .slt v132 c0_i32_87
  let v143 : BitVec 32 := Scalar.extui v142
  let v144 : BitVec 32 := Scalar.subi v141 v143
  let v145 : BitVec 1 := Scalar.cmpi .ne v139 v144
  let v146 : BitVec 32 := Scalar.remsi arg6 v132
  let c0_i32_88 : BitVec 32 := 0#32
  let v147 : BitVec 1 := Scalar.cmpi .ne v146 c0_i32_88
  let v148 : BitVec 1 := Scalar.andi v145 v147
  let v134 : BitVec 32 := Scalar.divsi arg6 v132
  let c1_i32_89 : BitVec 32 := 1#32
  let v149 : BitVec 32 := Scalar.subi v134 c1_i32_89
  let v150 : BitVec 32 := Scalar.select v148 v149 v134
  let c2_i32 : BitVec 32 := 2#32
  let v151 : BitVec 32 := Scalar.muli v150 c2_i32
  let v152 : BitVec 32 := Scalar.muli v151 v132
  let c0_i32_90 : BitVec 32 := 0#32
  let v153 : BitVec 1 := Scalar.cmpi .eq v132 c0_i32_90
  let c1_i32_91 : BitVec 32 := 1#32
  let v154 : BitVec 32 := Scalar.select v153 c1_i32_91 v132
  let v155 : BitVec 32 := Scalar.remsi arg6 v154
  let c0_i32_93 : BitVec 32 := 0#32
  let v157 : BitVec 1 := Scalar.cmpi .slt v155 c0_i32_93
  let c0_i32_94 : BitVec 32 := 0#32
  let v158 : BitVec 1 := Scalar.cmpi .slt v154 c0_i32_94
  let v159 : BitVec 1 := Scalar.xori v157 v158
  let c0_i32_92 : BitVec 32 := 0#32
  let v156 : BitVec 1 := Scalar.cmpi .ne v155 c0_i32_92
  let v160 : BitVec 1 := Scalar.andi v159 v156
  let v161 : BitVec 32 := Scalar.addi v155 v154
  let v162 : BitVec 32 := Scalar.select v160 v161 v155
  let v163 : BitVec 32 := Scalar.addi v152 v162
  let c2048_i32_95 : BitVec 32 := 2048#32
  let v165 : BitVec 32 := Scalar.muli v163 c2048_i32_95
  let v166 : Index := Scalar.indexCast v165
  let c0_96 : Index := 0#32
  ![v166.toNat, 0]
def k0_cond1 (v112 : BitVec 32) : BitVec 1 :=
  let c2048_i32 : BitVec 32 := 2048#32
  let v113 : BitVec 1 := Scalar.cmpi .sge v112 c2048_i32
  let v114 : BitVec 32 := Scalar.extui v113
  let c0_i32_73 : BitVec 32 := 0#32
  let v115 : BitVec 1 := Scalar.cmpi .ne v114 c0_i32_73
  v115

def k0_off3 (v112 : BitVec 32) (k0_t2 : Fin k0_t2_loop.trips) : Fin 2 → Nat :=
  let c0_i32_81 : BitVec 32 := 0#32
  let c1_i32_82 : BitVec 32 := 1#32
  let arg6 : BitVec 32 := Scf.iv c0_i32_81 c1_i32_82 k0_t2
  let c0_i32_84 : BitVec 32 := 0#32
  let v135 : BitVec 1 := Scalar.cmpi .sgt arg6 c0_i32_84
  let v136 : BitVec 32 := Scalar.extui v135
  let c0_i32_85 : BitVec 32 := 0#32
  let v137 : BitVec 1 := Scalar.cmpi .slt arg6 c0_i32_85
  let v138 : BitVec 32 := Scalar.extui v137
  let v139 : BitVec 32 := Scalar.subi v136 v138
  let c0_i32_75 : BitVec 32 := 0#32
  let v117 : BitVec 1 := Scalar.cmpi .sgt v112 c0_i32_75
  let v118 : BitVec 32 := Scalar.extui v117
  let c0_i32_76 : BitVec 32 := 0#32
  let v119 : BitVec 1 := Scalar.cmpi .slt v112 c0_i32_76
  let v120 : BitVec 32 := Scalar.extui v119
  let v121 : BitVec 32 := Scalar.subi v118 v120
  let c2048_i32_74 : BitVec 32 := 2048#32
  let c0_i32_77 : BitVec 32 := 0#32
  let v122 : BitVec 1 := Scalar.cmpi .sgt c2048_i32_74 c0_i32_77
  let v123 : BitVec 32 := Scalar.extui v122
  let c0_i32_78 : BitVec 32 := 0#32
  let v124 : BitVec 1 := Scalar.cmpi .slt c2048_i32_74 c0_i32_78
  let v125 : BitVec 32 := Scalar.extui v124
  let v126 : BitVec 32 := Scalar.subi v123 v125
  let v127 : BitVec 1 := Scalar.cmpi .ne v121 v126
  let v128 : BitVec 32 := Scalar.remsi v112 c2048_i32_74
  let c0_i32_79 : BitVec 32 := 0#32
  let v129 : BitVec 1 := Scalar.cmpi .ne v128 c0_i32_79
  let v130 : BitVec 1 := Scalar.andi v127 v129
  let v116 : BitVec 32 := Scalar.divsi v112 c2048_i32_74
  let c1_i32_80 : BitVec 32 := 1#32
  let v131 : BitVec 32 := Scalar.subi v116 c1_i32_80
  let v132 : BitVec 32 := Scalar.select v130 v131 v116
  let c0_i32_86 : BitVec 32 := 0#32
  let v140 : BitVec 1 := Scalar.cmpi .sgt v132 c0_i32_86
  let v141 : BitVec 32 := Scalar.extui v140
  let c0_i32_87 : BitVec 32 := 0#32
  let v142 : BitVec 1 := Scalar.cmpi .slt v132 c0_i32_87
  let v143 : BitVec 32 := Scalar.extui v142
  let v144 : BitVec 32 := Scalar.subi v141 v143
  let v145 : BitVec 1 := Scalar.cmpi .ne v139 v144
  let v146 : BitVec 32 := Scalar.remsi arg6 v132
  let c0_i32_88 : BitVec 32 := 0#32
  let v147 : BitVec 1 := Scalar.cmpi .ne v146 c0_i32_88
  let v148 : BitVec 1 := Scalar.andi v145 v147
  let v134 : BitVec 32 := Scalar.divsi arg6 v132
  let c1_i32_89 : BitVec 32 := 1#32
  let v149 : BitVec 32 := Scalar.subi v134 c1_i32_89
  let v150 : BitVec 32 := Scalar.select v148 v149 v134
  let c2_i32 : BitVec 32 := 2#32
  let v151 : BitVec 32 := Scalar.muli v150 c2_i32
  let v152 : BitVec 32 := Scalar.muli v151 v132
  let c0_i32_90 : BitVec 32 := 0#32
  let v153 : BitVec 1 := Scalar.cmpi .eq v132 c0_i32_90
  let c1_i32_91 : BitVec 32 := 1#32
  let v154 : BitVec 32 := Scalar.select v153 c1_i32_91 v132
  let v155 : BitVec 32 := Scalar.remsi arg6 v154
  let c0_i32_93 : BitVec 32 := 0#32
  let v157 : BitVec 1 := Scalar.cmpi .slt v155 c0_i32_93
  let c0_i32_94 : BitVec 32 := 0#32
  let v158 : BitVec 1 := Scalar.cmpi .slt v154 c0_i32_94
  let v159 : BitVec 1 := Scalar.xori v157 v158
  let c0_i32_92 : BitVec 32 := 0#32
  let v156 : BitVec 1 := Scalar.cmpi .ne v155 c0_i32_92
  let v160 : BitVec 1 := Scalar.andi v159 v156
  let v161 : BitVec 32 := Scalar.addi v155 v154
  let v162 : BitVec 32 := Scalar.select v160 v161 v155
  let v163 : BitVec 32 := Scalar.addi v152 v162
  let v164 : BitVec 32 := Scalar.addi v163 v132
  let c2048_i32_97 : BitVec 32 := 2048#32
  let v168 : BitVec 32 := Scalar.muli v164 c2048_i32_97
  let v169 : Index := Scalar.indexCast v168
  let c0_98 : Index := 0#32
  ![v169.toNat, 0]

def k0_chk1 (v112 : BitVec 32) : Prop :=
  (∀ k0_t2 : Fin k0_t2_loop.trips, ∀ (k0_h1 : k0_cond1 v112 = 1#1), ∀ a, (k0_off2 v112 k0_t2) a + S2048x100.size a ≤ S16384x100.size a) ∧
  (∀ k0_t2 : Fin k0_t2_loop.trips, ∀ (k0_h1 : k0_cond1 v112 = 1#1), ∀ a, (k0_off3 v112 k0_t2) a + S2048x100.size a ≤ S16384x100.size a)
theorem k0_off2_inb : ∀ (v112 : BitVec 32) (k0_hw1 : k0_chk1 v112) (k0_t2 : Fin k0_t2_loop.trips), ∀ (k0_h1 : k0_cond1 v112 = 1#1), ∀ a, (k0_off2 v112 k0_t2) a + S2048x100.size a ≤ S16384x100.size a := fun v112 k0_hw1 k0_t2 k0_h1 => k0_hw1.1 k0_t2 k0_h1
theorem k0_off3_inb : ∀ (v112 : BitVec 32) (k0_hw1 : k0_chk1 v112) (k0_t2 : Fin k0_t2_loop.trips), ∀ (k0_h1 : k0_cond1 v112 = 1#1), ∀ a, (k0_off3 v112 k0_t2) a + S2048x100.size a ≤ S16384x100.size a := fun v112 k0_hw1 k0_t2 k0_h1 => k0_hw1.2 k0_t2 k0_h1

@[reducible] def k0_t3_loop : Scf.Loop 32 :=
  let c0_i32_74 : BitVec 32 := 0#32
  let c8_i32 : BitVec 32 := 8#32
  let v116 : BitVec 32 := Scalar.addi c0_i32_74 c8_i32
  let c1_i32_75 : BitVec 32 := 1#32
  ⟨c0_i32_74, v116, c1_i32_75⟩
def k0_off4 (k0_t3 : Fin k0_t3_loop.trips) : Fin 2 → Nat :=
  let c0_i32_74 : BitVec 32 := 0#32
  let c1_i32_75 : BitVec 32 := 1#32
  let arg6 : BitVec 32 := Scf.iv c0_i32_74 c1_i32_75 k0_t3
  let c2048_i32_77 : BitVec 32 := 2048#32
  let v117 : BitVec 32 := Scalar.muli arg6 c2048_i32_77
  let v118 : Index := Scalar.indexCast v117
  let c0_78 : Index := 0#32
  ![v118.toNat, 0]
abbrev stage0_0 : Fin 1 → Memref sig .tc .smem S105 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S105 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x1600 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1600 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1600 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "w1" => some ((1 / 5 : ℝ) : EReal)
  | "w2" => some ((2 / 5 : ℝ) : EReal)
  | "w3" => some ((3 / 5 : ℝ) : EReal)
  | "w4" => some ((4 / 5 : ℝ) : EReal)
  | _ => none
-- ==== ReferenceIdeal.lean ====
abbrev S16384x100 : Shape := ⟨2, ![16384, 100]⟩
abbrev S_ : Shape := ⟨0, ![]⟩
abbrev S15 : Shape := ⟨1, ![15]⟩
abbrev S1 : Shape := ⟨1, ![1]⟩
abbrev S16 : Shape := ⟨1, ![16]⟩
abbrev S100 : Shape := ⟨1, ![100]⟩
abbrev S1x100 : Shape := ⟨2, ![1, 100]⟩
abbrev S16x1 : Shape := ⟨2, ![16, 1]⟩
abbrev S16x100 : Shape := ⟨2, ![16, 100]⟩
abbrev S16384x100x1 : Shape := ⟨3, ![16384, 100, 1]⟩
abbrev S15x100 : Shape := ⟨2, ![15, 100]⟩
abbrev S100x15 : Shape := ⟨2, ![100, 15]⟩
abbrev S1x100x15 : Shape := ⟨3, ![1, 100, 15]⟩
abbrev S16384x100x15 : Shape := ⟨3, ![16384, 100, 15]⟩
abbrev S1x1x15 : Shape := ⟨3, ![1, 1, 15]⟩
abbrev S16384x100x16 : Shape := ⟨3, ![16384, 100, 16]⟩
abbrev S16384x1600 : Shape := ⟨2, ![16384, 1600]⟩

abbrev nBuf : Space → Nat
  | .hbm => 124
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S1, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S1, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S16, .f32⟩
  | .hbm, ⟨24, _⟩ => ⟨S16384x100, .i1⟩
  | .hbm, ⟨25, _⟩ => ⟨S_, .i1⟩
  | .hbm, ⟨26, _⟩ => ⟨S100, .i1⟩
  | .hbm, ⟨27, _⟩ => ⟨S1x100, .i1⟩
  | .hbm, ⟨28, _⟩ => ⟨S_, .f32⟩
  | .hbm, ⟨29, _⟩ => ⟨S_, .f32⟩
  | .hbm, ⟨30, _⟩ => ⟨S16384x100, .i1⟩
  | .hbm, ⟨31, _⟩ => ⟨S16384x100, .f32⟩
  | .hbm, ⟨32, _⟩ => ⟨S16384x100, .f32⟩
  | .hbm, ⟨33, _⟩ => ⟨S16384x100, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S16, .i32⟩
  | .hbm, ⟨60, _⟩ => ⟨S16, .i32⟩
  | .hbm, ⟨61, _⟩ => ⟨S16x1, .i32⟩
  | .hbm, ⟨62, _⟩ => ⟨S16x100, .f32⟩
  | .hbm, ⟨63, _⟩ => ⟨S16x1, .i32⟩
  | .hbm, ⟨64, _⟩ => ⟨S16x100, .f32⟩
  | .hbm, ⟨65, _⟩ => ⟨S16x100, .f32⟩
  | .hbm, ⟨66, _⟩ => ⟨S16x100, .f32⟩
  | .hbm, ⟨67, _⟩ => ⟨S16x100, .f32⟩
  | .hbm, ⟨68, _⟩ => ⟨S16x100, .f32⟩
  | .hbm, ⟨69, _⟩ => ⟨S16x100, .f32⟩
  | .hbm, ⟨70, _⟩ => ⟨S16384x100x1, .f32⟩
  | .hbm, ⟨71, _⟩ => ⟨S15x100, .f32⟩
  | .hbm, ⟨72, _⟩ => ⟨S100x15, .f32⟩
  | .hbm, ⟨73, _⟩ => ⟨S1x100x15, .f32⟩
  | .hbm, ⟨74, _⟩ => ⟨S15x100, .f32⟩
  | .hbm, ⟨75, _⟩ => ⟨S100x15, .f32⟩
  | .hbm, ⟨76, _⟩ => ⟨S1x100x15, .f32⟩
  | .hbm, ⟨77, _⟩ => ⟨S_, .f32⟩
  | .hbm, ⟨78, _⟩ => ⟨S16384x100x15, .f32⟩
  | .hbm, ⟨79, _⟩ => ⟨S16384x100x15, .f32⟩
  | .hbm, ⟨80, _⟩ => ⟨S16384x100x15, .f32⟩
  | .hbm, ⟨81, _⟩ => ⟨S16384x100x15, .i1⟩
  | .hbm, ⟨82, _⟩ => ⟨S_, .f32⟩
  | .hbm, ⟨83, _⟩ => ⟨S_, .f32⟩
  | .hbm, ⟨84, _⟩ => ⟨S16384x100x15, .f32⟩
  | .hbm, ⟨85, _⟩ => ⟨S16384x100x15, .f32⟩
  | .hbm, ⟨86, _⟩ => ⟨S15, .i32⟩
  | .hbm, ⟨87, _⟩ => ⟨S_, .i32⟩
  | .hbm, ⟨88, _⟩ => ⟨S15, .i32⟩
  | .hbm, ⟨89, _⟩ => ⟨S15, .i32⟩
  | .hbm, ⟨90, _⟩ => ⟨S_, .i32⟩
  | .hbm, ⟨91, _⟩ => ⟨S15, .i32⟩
  | .hbm, ⟨92, _⟩ => ⟨S15, .i1⟩
  | .hbm, ⟨93, _⟩ => ⟨S1x1x15, .i1⟩
  | .hbm, ⟨94, _⟩ => ⟨S16384x100x15, .f32⟩
  | .hbm, ⟨95, _⟩ => ⟨S16384x100x15, .f32⟩
  | .hbm, ⟨96, _⟩ => ⟨S16384x100x15, .i1⟩
  | .hbm, ⟨97, _⟩ => ⟨S16384x100x15, .i1⟩
  | .hbm, ⟨98, _⟩ => ⟨S16384x100x15, .i1⟩
  | .hbm, ⟨99, _⟩ => ⟨S_, .f32⟩
  | .hbm, ⟨100, _⟩ => ⟨S_, .f32⟩
  | .hbm, ⟨101, _⟩ => ⟨S16384x100x15, .f32⟩
  | .hbm, ⟨102, _⟩ => ⟨S16384x100x15, .f32⟩
  | .hbm, ⟨103, _⟩ => ⟨S16384x100x15, .f32⟩
  | .hbm, ⟨104, _⟩ => ⟨S16384x100x15, .f32⟩
  | .hbm, ⟨105, _⟩ => ⟨S16384x100x15, .i1⟩
  | .hbm, ⟨106, _⟩ => ⟨S16384x100x15, .f32⟩
  | .hbm, ⟨107, _⟩ => ⟨S16384x100x15, .f32⟩
  | .hbm, ⟨108, _⟩ => ⟨S16384x100x15, .i1⟩
  | .hbm, ⟨109, _⟩ => ⟨S16384x100x15, .i1⟩
  | .hbm, ⟨110, _⟩ => ⟨S16384x100x15, .f32⟩
  | .hbm, ⟨111, _⟩ => ⟨S16384x100x15, .f32⟩
  | .hbm, ⟨112, _⟩ => ⟨S16384x100x15, .f32⟩
  | .hbm, ⟨113, _⟩ => ⟨S1x100x15, .f32⟩
  | .hbm, ⟨114, _⟩ => ⟨S_, .f32⟩
  | .hbm, ⟨115, _⟩ => ⟨S1x100x15, .f32⟩
  | .hbm, ⟨116, _⟩ => ⟨S1x100x15, .f32⟩
  | .hbm, ⟨117, _⟩ => ⟨S16384x100x15, .f32⟩
  | .hbm, ⟨118, _⟩ => ⟨S16384x100x15, .f32⟩
  | .hbm, ⟨119, _⟩ => ⟨S16384x100x15, .f32⟩
  | .hbm, ⟨120, _⟩ => ⟨S_, .f32⟩
  | .hbm, ⟨121, _⟩ => ⟨S16384x100x1, .f32⟩
  | .hbm, ⟨122, _⟩ => ⟨S16384x100x16, .f32⟩
  | .hbm, ⟨123, _⟩ => ⟨S16384x1600, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_cst : Ref sig .tc := ⟨.hbm, 28, rfl⟩
abbrev main_call1_call0_v0 : Ref sig .tc := ⟨.hbm, 29, rfl⟩
abbrev main_call1_call0_v1 : Ref sig .tc := ⟨.hbm, 30, rfl⟩
abbrev main_call1_call0_v2 : Ref sig .tc := ⟨.hbm, 31, rfl⟩
abbrev main_call1_v3 : Ref sig .tc := ⟨.hbm, 32, rfl⟩
abbrev main_call1_v4 : Ref sig .tc := ⟨.hbm, 33, rfl⟩
abbrev main_call1_cst_0 : Ref sig .tc := ⟨.hbm, 34, rfl⟩
abbrev main_call1_cst_1 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_cst_2 : Ref sig .tc := ⟨.hbm, 42, rfl⟩
abbrev main_call1_v11 : Ref sig .tc := ⟨.hbm, 43, rfl⟩
abbrev main_call1_v12 : Ref sig .tc := ⟨.hbm, 44, rfl⟩
abbrev main_call1_cst_3 : Ref sig .tc := ⟨.hbm, 45, rfl⟩
abbrev main_call1_cst_4 : Ref sig .tc := ⟨.hbm, 46, rfl⟩
abbrev main_call1_v13 : Ref sig .tc := ⟨.hbm, 47, rfl⟩
abbrev main_call1_cst_5 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_call1_cst_6 : Ref sig .tc := ⟨.hbm, 52, rfl⟩
abbrev main_call1_cst_7 : Ref sig .tc := ⟨.hbm, 53, rfl⟩
abbrev main_call1_v17 : Ref sig .tc := ⟨.hbm, 54, rfl⟩
abbrev main_call1_cst_8 : Ref sig .tc := ⟨.hbm, 55, rfl⟩
abbrev main_call1_v18 : Ref sig .tc := ⟨.hbm, 56, rfl⟩
abbrev main_call1_v19 : Ref sig .tc := ⟨.hbm, 57, rfl⟩
abbrev main_call1_v20 : Ref sig .tc := ⟨.hbm, 58, rfl⟩
abbrev main_call1_v21 : Ref sig .tc := ⟨.hbm, 59, rfl⟩
abbrev main_call1_v22 : Ref sig .tc := ⟨.hbm, 60, rfl⟩
abbrev main_call1_v23 : Ref sig .tc := ⟨.hbm, 61, rfl⟩
abbrev main_call1_v24 : Ref sig .tc := ⟨.hbm, 62, rfl⟩
abbrev main_call1_v25 : Ref sig .tc := ⟨.hbm, 63, rfl⟩
abbrev main_call1_v26 : Ref sig .tc := ⟨.hbm, 64, rfl⟩
abbrev main_call1_v27 : Ref sig .tc := ⟨.hbm, 65, rfl⟩
abbrev main_call1_v28 : Ref sig .tc := ⟨.hbm, 66, rfl⟩
abbrev main_call1_v29 : Ref sig .tc := ⟨.hbm, 67, rfl⟩
abbrev main_call1_v30 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_cst_1 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_cst_2 : Ref sig .tc := ⟨.hbm, 82, rfl⟩
abbrev main_call2_v0 : Ref sig .tc := ⟨.hbm, 83, rfl⟩
abbrev main_call2_v1 : Ref sig .tc := ⟨.hbm, 84, rfl⟩
abbrev main_v13 : Ref sig .tc := ⟨.hbm, 85, rfl⟩
abbrev main_v14 : Ref sig .tc := ⟨.hbm, 86, rfl⟩
abbrev main_c : Ref sig .tc := ⟨.hbm, 87, rfl⟩
abbrev main_v15 : Ref sig .tc := ⟨.hbm, 88, rfl⟩
abbrev main_v16 : Ref sig .tc := ⟨.hbm, 89, rfl⟩
abbrev main_c_3 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_cst_4 : Ref sig .tc := ⟨.hbm, 99, rfl⟩
abbrev main_call3_v0 : Ref sig .tc := ⟨.hbm, 100, rfl⟩
abbrev main_call3_v1 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_cst_5 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_cst_6 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩

abbrev nD : Nat := 1
abbrev τ : Topo := Topo.v7x

variable {F : FTy → Type} [FloatOps F]
-- ==== Proof.SortRun.lean ====
/-
  The sort call's run. The call holds two tables of stage parameters and a scratch array; the outer loop applies one
  compare-exchange stage per table entry, and what it leaves in the scratch is the recursion `scrAt` below.
-/
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

section Loop

variable (c : Dev nD) (arg0 : Memref sig .tc .smem S105 .i32) (harg0 : arg0.IsWhole) (arg1 : Memref sig .tc .smem S105 .i32) (harg1 : arg1.IsWhole)
  (arg2 : Memref sig .tc .vmem S16384x100 .f32) (harg2 : arg2.IsWhole) (arg3 : Memref sig .tc .vmem S16x100 .f32) (harg3 : arg3.IsWhole)
  (arg4 : Memref sig .tc .vmem S16384x100 .f32) (harg4 : arg4.IsWhole)

/-- The word a trip of the stage loop reads from a table. -/
def word (arg : Memref sig .tc .smem S105 .i32) (X : BufTy.Contents (Elt F) arg.view.ty) (k : Fin k0_t1_loop.trips) : Elt F .i32 :=
  arg.view.readAt (Elt F) (Rect.unit (s := S105) (k0_off1 k) S1.size (k0_off1_inb k)).toLoadRect X (Shape.Idx.first (numel1_S1 ▸ Nat.one_pos))

/-- The quotient the crossing branch computes of its distance (its own trips do not depend on it). -/
def quot (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 2048#32 0#32)) (Scalar.extui (Scalar.cmpi .slt 2048#32 0#32))))
      (Scalar.cmpi .ne (Scalar.remsi w 2048#32) 0#32))
    (Scalar.subi (Scalar.divsi w 2048#32) 1#32) (Scalar.divsi w 2048#32)

/-- What one stage (block size `wk`, distance `wd`) leaves in the scratch that held `G`. -/
def stage (wk wd : BitVec 32) (G : BufTy.Contents (Elt F) arg4.view.ty) : BufTy.Contents (Elt F) arg4.view.ty :=
  if h : k0_chk1 wd then
    if h1 : k0_cond1 wd = 1#1 then
      arg4.view.writes (Elt F) G (pb_k0_t2 𝒱₀ c none arg0 harg0 arg1 harg1 arg2 harg2 arg3 harg3 arg4 harg4 wk wd h h1 (quot wd) G k0_t2_loop.trips)
    else
      arg4.view.writes (Elt F) G (pb_k0_t3 𝒱₀ c none arg0 harg0 arg1 harg1 arg2 harg2 arg3 harg3 arg4 harg4 wk wd G k0_t3_loop.trips)
  else G

/-- The scratch before trip `k` of the stage loop, from `G` at its entry. -/
def scrAt (X0 : BufTy.Contents (Elt F) arg0.view.ty) (X1 : BufTy.Contents (Elt F) arg1.view.ty) (G : BufTy.Contents (Elt F) arg4.view.ty) :
    ℕ → BufTy.Contents (Elt F) arg4.view.ty
  | 0 => G
  | k + 1 => if h : k < k0_t1_loop.trips then
      stage c arg0 harg0 arg1 harg1 arg2 harg2 arg3 harg3 arg4 harg4 (word arg0 X0 ⟨k, h⟩) (word arg1 X1 ⟨k, h⟩) (scrAt X0 X1 G k)
    else scrAt X0 X1 G k

theorem scrAt_succ (X0 : BufTy.Contents (Elt F) arg0.view.ty) (X1 : BufTy.Contents (Elt F) arg1.view.ty) (G : BufTy.Contents (Elt F) arg4.view.ty)
    (k : Fin k0_t1_loop.trips) :
    scrAt c arg0 harg0 arg1 harg1 arg2 harg2 arg3 harg3 arg4 harg4 X0 X1 G (k.val + 1)
      = stage c arg0 harg0 arg1 harg1 arg2 harg2 arg3 harg3 arg4 harg4 (word arg0 X0 k) (word arg1 X1 k)
          (scrAt c arg0 harg0 arg1 harg1 arg2 harg2 arg3 harg3 arg4 harg4 X0 X1 G k.val) := by
  rw [scrAt.eq_2]; exact dif_pos k.isLt

set_option warn.classDefReducibility false in
/-- The stage loop by its invariant: the tables stay, and the scratch holds `scrAt`. Each trip's side condition
(the crossing branch's places lie inside the scratch) is read off the table. -/
@[sl_loop] def loopInv_k0_t1 (X0 : BufTy.Contents (Elt F) arg0.view.ty) (X1 : BufTy.Contents (Elt F) arg1.view.ty)
    (hX : ∀ k, k0_chk1 (word arg1 X1 k)) (G : BufTy.Contents (Elt F) arg4.view.ty) :
    Gen.LoopInvTy_k0_t1 (F := F) Unit ℕ (UR sig nD τ) ℕ 𝒱₀ c none Set.univ arg0 harg0 arg1 harg1 arg2 harg2 arg3 harg3 arg4 harg4 where
  inv k _ := iprop((arg0.view.loc (c : Thread nD τ) ↦[arg0.view.set]{fullShare} X0) ∗ (arg1.view.loc (c : Thread nD τ) ↦[arg1.view.set]{fullShare} X1)
    ∗ ∃ f, (arg4.view.loc (c : Thread nD τ) ↦[arg4.view.set]{fullShare} f) ∗ ⌜f = scrAt c arg0 harg0 arg1 harg1 arg2 harg2 arg3 harg3 arg4 harg4 X0 X1 G k⌝)
  step k acc := by
    unfold k0_t1_body
    iintro ⟨H0, H1, ⟨%f, H4, %hf⟩⟩
    rw [scrAt_succ, ← hf]
    have hk : k0_chk1 (word arg1 X1 k) := hX k
    unfold stage
    rw [dif_pos hk]
    by_cases h1 : k0_cond1 (word arg1 X1 k) = 1#1
    · rw [dif_pos h1]
      sl_exec
      sl_step
      isplitl [H0]; · iexact H0
      isplitl [H1]; · iexact H1
      iexists _; isplitl [H4]; · iexact H4
      ipureintro; rfl
    · rw [dif_neg h1]
      sl_exec
      sl_step
      isplitl [H0]; · iexact H0
      isplitl [H1]; · iexact H1
      iexists _; isplitl [H4]; · iexact H4
      ipureintro; rfl

/-- Row `l` of the scratch, as the rectangle the kernel loads. -/
abbrev rowRect (l : ℕ) (h : l < 16384) : Rect S16384x100 :=
  Rect.unit (s := S16384x100) ![l, 0] S1x100.size (Fin.forall_fin_two.mpr ⟨h, le_refl 100⟩)

/-- Row `l` of the sorted array. -/
abbrev row (S : Vec F S16384x100 .f32) (l : ℕ) (h : l < 16384) : Vec F S1x100 .f32 := View.ld S (rowRect l h)

/-- Row `t` of the bins, as the rectangle the kernel stores. -/
abbrev binRect (t : ℕ) (h : t < 16) : Rect S16x100 :=
  Rect.unit (s := S16x100) ![t, 0] S1x100.size (Fin.forall_fin_two.mpr ⟨h, le_refl 100⟩)

/-- The sixteen rows the call stores (last first), from the sorted array. -/
abbrev binPieces (S : Vec F S16384x100 .f32) : List (View.Piece (Elt F) S16x100 .f32) :=
    [ ⟨binRect 15 (by decide), row S 16383 (by decide)⟩,
      ⟨binRect 14 (by decide), k0_pay19 (row S 15290 (by decide)) (row S 15291 (by decide))⟩,
      ⟨binRect 13 (by decide), k0_pay18 (row S 14198 (by decide)) (row S 14199 (by decide))⟩,
      ⟨binRect 12 (by decide), k0_pay17 (row S 13106 (by decide)) (row S 13107 (by decide))⟩,
      ⟨binRect 11 (by decide), k0_pay16 (row S 12014 (by decide)) (row S 12015 (by decide)) k0_pay15⟩,
      ⟨binRect 10 (by decide), row S 10922 (by decide)⟩,
      ⟨binRect 9 (by decide), k0_pay14 (row S 9829 (by decide)) (row S 9830 (by decide))⟩,
      ⟨binRect 8 (by decide), k0_pay13 (row S 8737 (by decide)) (row S 8738 (by decide))⟩,
      ⟨binRect 7 (by decide), k0_pay12 (row S 7645 (by decide)) (row S 7646 (by decide))⟩,
      ⟨binRect 6 (by decide), k0_pay11 (row S 6553 (by decide)) (row S 6554 (by decide))⟩,
      ⟨binRect 5 (by decide), row S 5461 (by decide)⟩,
      ⟨binRect 4 (by decide), k0_pay10 (row S 4368 (by decide)) (row S 4369 (by decide))⟩,
      ⟨binRect 3 (by decide), k0_pay9 (row S 3276 (by decide)) (row S 3277 (by decide))⟩,
      ⟨binRect 2 (by decide), k0_pay8 (row S 2184 (by decide)) (row S 2185 (by decide))⟩,
      ⟨binRect 1 (by decide), k0_pay7 (row S 1092 (by decide)) (row S 1093 (by decide))⟩,
      ⟨binRect 0 (by decide), row S 0 (by decide)⟩ ]

/-- The bins the call leaves, from the sorted array. -/
def binsOut (S : Vec F S16384x100 .f32) : Vec F S16x100 .f32 := View.canon (binPieces S)

/-- The sixteen rows fill the bins. -/
theorem cover_bins (S : Vec F S16384x100 .f32) (y : S16x100.Idx) : ∃ pc ∈ binPieces S, y ∈ pc.1.set :=
  View.cover_of_tiledL (binPieces S) S1x100.size (by sl_kernel_rfl) y

/-- The rectangle of the whole array. -/
abbrev allRect : Rect S16384x100 := Rect.unit (s := S16384x100) ![0, 0] S16384x100.size inb_S16384x100_S16384x100_0_0

/-- The scratch when the stages begin: the array copied in. -/
def scr0 (x2 : Vec F S16384x100 .f32) : BufTy.Contents (Elt F) arg4.view.ty :=
  arg4.view.writes (Elt F) arg4.view.junk [⟨allRect, k0_pay3 (View.ld x2 allRect)⟩]

/-- The sorted array: what the stages leave in the scratch. -/
def scrOut (x0 x1 : Vec F S105 .i32) (x2 : Vec F S16384x100 .f32) : Vec F S16384x100 .f32 :=
  arg4.view.read (Elt F)
    (scrAt c arg0 harg0 arg1 harg1 arg2 harg2 arg3 harg3 arg4 harg4 (harg0.unread x0) (harg1.unread x1) (scr0 arg4 x2) k0_t1_loop.trips)

set_option maxHeartbeats 1000000 in
/-- The sort call on whole buffers: from the tables at `x0`, `x1` (every distance of which keeps the crossing branch
inside the scratch) and the array at `x2`, it ends with these unchanged and the bins of the scratch the stages leave. -/
theorem sound_sort (x0 x1 : Vec F S105 .i32) (x2 : Vec F S16384x100 .f32) (hc : ∀ k, k0_chk1 (word (F := F) arg1 (harg1.unread x1) k)) (E : Set ℕ) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
      ∗ (iprop(owns (c : Thread nD τ) arg0 fullShare x0 ∗ owns (c : Thread nD τ) arg1 fullShare x1 ∗ owns (c : Thread nD τ) arg2 fullShare x2
          ∗ owns (c : Thread nD τ) arg3 fullShare (binsOut (scrOut c arg0 harg0 arg1 harg1 arg2 harg2 arg3 harg3 arg4 harg4 x0 x1 x2))
          ∗ (∃ d, owns (c : Thread nD τ) arg4 fullShare d)) -∗ K ⟨⟩))
    ⊢ wp frame (wpE (defs₀ (F := F)) Variants.none c none) Set.univ (cc0__sort_bins_kernel arg0 harg0 arg1 harg1 arg2 harg2 arg3 harg3 arg4 harg4) K := by
  simp only [cc0__sort_bins_kernel_eq_skeleton]; unfold cc0__sort_bins_kernel_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg0.eq_unread hf0; obtain rfl := harg1.eq_unread hf1; obtain rfl := harg2.eq_unread hf2
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    have e0 : View.ld x2 allRect = arg2.view.readAt (Elt F) allRect.toLoadRect (harg2.unread x2) := by
      conv_lhs => rw [← harg2.read_unread x2]
      rfl
    unfold binsOut scrOut scr0
    rw [e0]
    exact View.read_writes_eq_canon _ _ _ (cover_bins _)
  iexists _; iexists _; isplitr
  swap; · iexact H4
  ipureintro; rfl

end Loop
end Cert.Proof.KernelIdeal

end
-- ==== Proof.Run.lean ====
/-
  The run of the program: the sort call, the host operations between, and the encode call, each entered from the buffer
  contents the item before it left. `run_main` states where every buffer ends (`W4`).
-/
module

public import proofs.«01_k».proof.Proof.SortRun
public import proofs.«01_k».proof.Proof.Gen.KernelIdeal.Regions

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The encode call on whole buffers -/

abbrev blkRect : Rect S512x100 := Rect.unit (s := S512x100) ![0, 0] S512x100.size inb_S512x100_S512x100_0_0
abbrev hotRect : Rect S100x1600 := Rect.unit (s := S100x1600) ![0, 0] S100x1600.size inb_S100x1600_S100x1600_0_0
abbrev edgeRect : Rect S1x1600 := Rect.unit (s := S1x1600) ![0, 0] S1x1600.size inb_S1x1600_S1x1600_0_0
abbrev encRect : Rect S512x1600 := Rect.unit (s := S512x1600) ![0, 0] S512x1600.size inb_S512x1600_S512x1600_0_0

/-- The block the encode call leaves, from its four input blocks. -/
def encOut (x0 : Vec F S512x100 .f32) (x1 : Vec F S100x1600 .f32) (x2 x3 : Vec F S1x1600 .f32) : Vec F S512x1600 .f32 :=
  View.canon [⟨encRect, k1_pay1 (View.ld x0 blkRect) (View.ld x1 hotRect) (View.ld x2 edgeRect) (View.ld x3 edgeRect)⟩]

/-- Its one store fills the block. -/
theorem cover_enc (p : Vec F S512x1600 .f32) (y : S512x1600.Idx) :
    ∃ pc ∈ ([⟨encRect, p⟩] : List (View.Piece (Elt F) S512x1600 .f32)), y ∈ pc.1.set :=
  View.cover_of_tiled [⟨encRect, p⟩] S512x1600.size (by rfl) y

set_option maxHeartbeats 1000000 in
/-- The encode call on whole buffers: it ends with its inputs unchanged and its output at `encOut` of them. -/
theorem sound_enc (c : Dev nD) (i : grid1.Coords) (arg1 : Memref sig .tc .vmem S512x100 .f32) (harg1 : arg1.IsWhole) (arg2 : Memref sig .tc .vmem S100x1600 .f32) (harg2 : arg2.IsWhole) (arg3 : Memref sig .tc .vmem S1x1600 .f32) (harg3 : arg3.IsWhole) (arg4 : Memref sig .tc .vmem S1x1600 .f32) (harg4 : arg4.IsWhole) (arg5 : Memref sig .tc .vmem S512x1600 .f32) (harg5 : arg5.IsWhole)
    (x0 : Vec F S512x100 .f32) (x1 : Vec F S100x1600 .f32) (x2 x3 : Vec F S1x1600 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (encOut x0 x1 x2 x3)) -∗ K ⟨⟩))
      ⊢ wp frame (wpE (defs₀ (F := F)) Variants.none c none) Set.univ (cc1__encode_kernel i arg1 harg1 arg2 harg2 arg3 harg3 arg4 harg4 arg5 harg5) K := by
  simp only [cc1__encode_kernel_eq_skeleton]; unfold cc1__encode_kernel_skel
  simp only [k1_part1_eq_skeleton]
  unfold owns
  iintro ⟨⟨%g0, %e0, H0⟩, ⟨%g1, %e1, H1⟩, ⟨%g2, %e2, H2⟩, ⟨%g3, %e3, H3⟩, ⟨%d4, %g4, -, H4⟩, Hk⟩
  subst e0 e1 e2 e3
  sl_exec
  sl_step
  iapply Hk
  isplitl [H0]; · iexists g0; isplitr; · ipureintro; rfl
                  iexact H0
  isplitl [H1]; · iexists g1; isplitr; · ipureintro; rfl
                  iexact H1
  isplitl [H2]; · iexists g2; isplitr; · ipureintro; rfl
                  iexact H2
  isplitl [H3]; · iexists g3; isplitr; · ipureintro; rfl
                  iexact H3
  iexists _; isplitr
  swap; · iexact H4
  ipureintro
  exact View.read_writes_eq_canon _ _ _ (cover_enc _)

/-! ## The two calls at the contents they are entered with -/

section Calls
variable (V : (c : Dev nD) → (b : Ref sig .tc) → Buf (Elt F) ((c : Thread nD τ).loc b))

/-- Window `w`'s block at point `t` of the sort call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of the encode call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev m0_0 (t : Fin cfg0.N) : Memref sig .tc .smem S105 .i32 := win0_0.stage (cfg0.slots t 0)
abbrev w0_0 (t : Fin cfg0.N) : (m0_0 t).IsWhole := hstage0_0 0
abbrev m0_1 (t : Fin cfg0.N) : Memref sig .tc .smem S105 .i32 := win0_1.stage (cfg0.slots t 1)
abbrev w0_1 (t : Fin cfg0.N) : (m0_1 t).IsWhole := hstage0_1 0
abbrev m0_2 (t : Fin cfg0.N) : Memref sig .tc .vmem S16384x100 .f32 := win0_2.stage (cfg0.slots t 2)
abbrev w0_2 (t : Fin cfg0.N) : (m0_2 t).IsWhole := hstage0_2 0
abbrev m0_3 (t : Fin cfg0.N) : Memref sig .tc .vmem S16x100 .f32 := win0_3.stage (cfg0.slots t 3)
abbrev w0_3 (t : Fin cfg0.N) : (m0_3 t).IsWhole := hstage0_3 0
/-- The scratch operand. -/
abbrev scr : Memref sig .tc .vmem S16384x100 .f32 := Memref.whole cc0_scratch0

/-- The sorted array at the call's one point. -/
def sorted0 (c : Dev nD) (t : Fin cfg0.N) : Vec F S16384x100 .f32 :=
  scrOut c (m0_0 t) (w0_0 t) (m0_1 t) (w0_1 t) (m0_2 t) (w0_2 t) (m0_3 t) (w0_3 t) scr (Memref.isWhole_whole _)
    (blk0 V c 0 t) (blk0 V c 1 t) (blk0 V c 2 t)

/-- The sort call's proof data: inputs stay, the bins end at `binsOut` of the sorted array. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => binsOut (sorted0 V c t)
  Φ _ := Pipeline.ΦA spec0 c
  q _ := fullShare
  owed _ := 0

/-- The encode call's proof data: inputs stay, the output block ends at `encOut` of the input blocks. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => encOut (blk1 V c 0 t) (blk1 V c 1 t) (blk1 V c 2 t) (blk1 V c 3 t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = binsOut (sorted0 V c t) := by dsimp only [dat0]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = encOut (blk1 V c 0 t) (blk1 V c 1 t) (blk1 V c 2 t) (blk1 V c 3 t) := by dsimp only [dat1]

/-! Each input's buffer holds its block when the body is called. -/

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
/-- The sort call's invariant with the scratch as a memref. -/
theorem phi0_eq (c : Dev nD) :
    (Pipeline.ΦA spec0 c : sProp 𝕄)
      = iprop(iprop((∃ d, owns (c : Thread nD τ) scr fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scr, owns_whole]; try rfl

/-- Every distance in the table keeps the crossing branch inside the scratch. -/
def TablesOk : Prop := ∀ c t k, k0_chk1 (word (F := F) (m0_1 t) ((w0_1 t).unread (blk0 V c 1 t)) k)

/-- The sort call at its point. -/
theorem sound0 (hV : TablesOk V) (c : Dev nD) (t : Fin cfg0.N) :
    iprop((dat0 V c).Φ t.castSucc ∗ (dat0 V c).owesAt () t.castSucc
      ∗ (∃ d, owns (c : Thread nD τ) (m0_0 t) fullShare ((dat0 V c).before 0 t d))
      ∗ (∃ d, owns (c : Thread nD τ) (m0_1 t) fullShare ((dat0 V c).before 1 t d))
      ∗ (∃ d, owns (c : Thread nD τ) (m0_2 t) fullShare ((dat0 V c).before 2 t d))
      ∗ (∃ d, owns (c : Thread nD τ) (m0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (m0_0 t) fullShare ((dat0 V c).after 0 t)
        ∗ owns (c : Thread nD τ) (m0_1 t) fullShare ((dat0 V c).after 1 t)
        ∗ owns (c : Thread nD τ) (m0_2 t) fullShare ((dat0 V c).after 2 t)
        ∗ owns (c : Thread nD τ) (m0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, phi0_eq]
  unfold sorted0
  iintro ⟨⟨⟨HS, HR⟩, Hg⟩, Ho, ⟨%d0, H0⟩, ⟨%d1, H1⟩, ⟨%d2, H2⟩, ⟨%d3, H3⟩⟩
  iapply (sound_sort c _ _ _ _ _ _ _ _ _ _ (blk0 V c 0 t) (blk0 V c 1 t) (blk0 V c 2 t) (hV c t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

/-- The sort call's body obligation. -/
theorem obligation0 (hV : TablesOk V) (c : Dev nD) : BodyObligation (dat0 (F := F) V c) (defs₀ (F := F)) Variants.none () Set.univ := fun t => by
  rw [bigSep_W0, bigSep_W0, row0]
  exact triple_restated (sound0 V hV c t) rfl .rfl fun _ => .rfl

/-- The encode call at a point. -/
theorem sound1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_enc c (grid1.coords t) _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row1 (t : Fin cfg1.N) : defs₀ (F := F) .tc cfg1.body (cfg1.bodyArgs t (cfg1.slots t)) = bodyAt1 t := by
  unfold defs₀; rw [Defs.onTc_tc]

/-- The encode call's body obligation. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Calls

/-! ## The contents at each boundary of the program -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- Entering the sort call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Leaving the sort call: its arrays at what the pipeline leaves, the rest as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- Entering the encode call. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- Leaving the encode call. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem hF0 (c : Dev nD) (w : Fin cfg0.W) : (dat0 (V1 m ρ) c).arrAt w cfg0.N = V2 m ρ c (Pipeline.arrRef spec0 w) :=
  (W2_arr m ρ c w).symm
theorem hF1 (c : Dev nD) (w : Fin cfg1.W) : (dat1 (V3 m ρ) c).arrAt w cfg1.N = V4 m ρ c (Pipeline.arrRef spec1 w) :=
  (W4_arr m ρ c w).symm
theorem hrest0 (c : Dev nD) : ∀ b, b ∉ Finset.univ.image (Pipeline.arrRef spec0) → V2 m ρ c b = V1 m ρ c b := fun b hb => by
  unfold V2 W2
  exact Pipeline.withArrays_of_ne spec0 c _ _ b fun w e => hb (Finset.mem_image.mpr ⟨w, Finset.mem_univ _, e⟩)
theorem hrest1 (c : Dev nD) : ∀ b, b ∉ Finset.univ.image (Pipeline.arrRef spec1) → V4 m ρ c b = V3 m ρ c b := fun b hb => by
  unfold V4 W4
  exact Pipeline.withArrays_of_ne spec1 c _ _ b fun w e => hb (Finset.mem_image.mpr ⟨w, Finset.mem_univ _, e⟩)

/-- The argument enters the sort call as launched. -/
theorem W1_x (c : Dev nD) : W1 m ρ c (Proc.devRef .tc main_arg0) = m ((c : Thread nD τ).loc main_arg0) :=
  (StableHlo.after_of_writes_sub hostOps0 _ hostOps0_writes (by decide)).trans rfl
/-- The sort call leaves it. -/
theorem W2_x (c : Dev nD) : W2 m ρ c (Proc.devRef .tc main_arg0) = m ((c : Thread nD τ).loc main_arg0) :=
  (W2_arr m ρ c 2).trans (((dat0 (V1 m ρ) c).arrAt_in 2 rfl _).trans ((A_eq0 (V1 m ρ) c 2).trans (W1_x m ρ c)))
/-- The host operations between leave it. -/
theorem W3_x (c : Dev nD) : W3 m ρ c (Proc.devRef .tc main_arg0) = m ((c : Thread nD τ).loc main_arg0) :=
  (StableHlo.after_of_writes_sub hostOps1 _ hostOps1_writes (by decide)).trans (W2_x m ρ c)
/-- The encode call leaves it: the argument ends as launched. -/
theorem W4_x (c : Dev nD) : W4 m ρ c (Proc.devRef .tc main_arg0) = m ((c : Thread nD τ).loc main_arg0) :=
  (W4_arr m ρ c 0).trans (((dat1 (V3 m ρ) c).arrAt_in 0 rfl _).trans ((A_eq1 (V3 m ρ) c 0).trans (W3_x m ρ c)))

/-- The distance table enters the sort call at its literal entries. -/
theorem blk0_ds (c : Dev nD) (t : Fin cfg0.N) : blk0 (V1 m ρ) c 1 t = fun i => lit1 (S105.rowMajor i) := by
  unfold blk0
  rw [show V1 m ρ c (Pipeline.arrRef spec0 1) = fun i => lit1 (S105.rowMajor i) from rfl]
  funext i
  refine congrArg lit1 (congrArg S105.rowMajor (?_ : _ = i))
  funext a
  apply Fin.ext
  fin_cases a
  show 0 * 105 + 1 * (i 0).val = (i 0).val
  omega

/-- The block-size table enters the sort call at its literal entries. -/
theorem blk0_ks (c : Dev nD) (t : Fin cfg0.N) : blk0 (V1 m ρ) c 0 t = fun i => lit0 (S105.rowMajor i) := by
  unfold blk0
  rw [show V1 m ρ c (Pipeline.arrRef spec0 0) = fun i => lit0 (S105.rowMajor i) from rfl]
  funext i
  refine congrArg lit0 (congrArg S105.rowMajor (?_ : _ = i))
  funext a
  apply Fin.ext
  fin_cases a
  show 0 * 105 + 1 * (i 0).val = (i 0).val
  omega

/-- Every literal distance keeps the crossing branch inside the scratch. -/
theorem lit_ok : ∀ i, k0_chk1 (lit1 i) := by decide +kernel

/-- A word read from a table is an entry of it. -/
theorem word_eq (arg : Memref sig .tc .smem S105 .i32) (h : arg.IsWhole) (x : Vec F S105 .i32) (k : Fin k0_t1_loop.trips) :
    word arg (h.unread x) k = View.ld x (Rect.unit (s := S105) (k0_off1 k) S1.size (k0_off1_inb k)) (Shape.Idx.first (numel1_S1 ▸ Nat.one_pos)) := by
  conv_rhs => rw [← h.read_unread x]
  rfl

theorem tables_ok : TablesOk (V1 (F := F) m ρ) := fun c t k => by
  rw [word_eq, blk0_ds]
  exact lit_ok _

/-! ## The segments -/

/-- Each pipeline's proof data, at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The sort call as a segment: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) (tables_ok m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The encode call as a segment: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

/-- No semaphore outlives its call. -/
theorem no_unscoped : ∀ sm : SemLoc sig, sm.isScoped .tc = true := by decide

set_option backward.isDefEq.respectTransparency.types false in
/-- Every run of the program ends, with every buffer that outlives its call at `W4` and every semaphore at zero. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The argument ends unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c _ (mem_uc main_arg0 (by decide))).trans (W4_x m ρ c), h.2⟩) (run_main m ρ)

end Cert.Proof.KernelIdeal

end
-- ==== Proof.Bitonic.lean ====
/-
  The compare-exchange stages of a bitonic sort, over a linear order: each stage rearranges, and the stages of all the merges
  in order sort. Sortedness is shown for propositions (one threshold at a time) and carried over to the linear order.
-/
module

public import Mathlib.Data.List.Sort
public import Mathlib.Data.List.OfFn
public import Mathlib.Data.List.FinRange
public import Mathlib.Order.Lattice
public import Mathlib.Order.PropInstances
public import Mathlib.Logic.Equiv.Fin.Basic
public import Mathlib.Tactic.Ring
public import Mathlib.Tactic.Tauto

@[expose] public section

namespace Cert.Proof.Bitonic

/-- `n` lies in the lower half of its block of `2 * d`. -/
def Up (d n : ℕ) : Prop := n / d % 2 = 0

instance (d n : ℕ) : Decidable (Up d n) := inferInstanceAs (Decidable (_ = _))

/-- The place `n` is compared with at distance `d`. -/
def mate (d n : ℕ) : ℕ := if Up d n then n + d else n - d

/-- One stage: in blocks of `k` in turn ascending and descending, every pair at distance `d` is put in order. -/
def stg {α : Type*} [Lattice α] (k d : ℕ) (x : ℕ → α) (n : ℕ) : α :=
  if Up d n ↔ Up k n then x n ⊓ x (mate d n) else x n ⊔ x (mate d n)

section places

variable {d n : ℕ}

theorem up_add (hd : 0 < d) (m i : ℕ) (hi : i < d) : Up d (2 * d * m + i) := by
  have : (2 * d * m + i) / d = 2 * m := by
    rw [show 2 * d * m + i = i + d * (2 * m) by ring, Nat.add_mul_div_left _ _ hd, Nat.div_eq_of_lt hi, Nat.zero_add]
  simp [Up, this]

theorem not_up_add (hd : 0 < d) (m i : ℕ) (hi : i < d) : ¬ Up d (2 * d * m + d + i) := by
  have : (2 * d * m + d + i) / d = 2 * m + 1 := by
    rw [show 2 * d * m + d + i = i + d * (2 * m + 1) by ring, Nat.add_mul_div_left _ _ hd, Nat.div_eq_of_lt hi, Nat.zero_add]
  simp [Up, this]

/-- Every place is in the lower or in the upper half of a block of `2 * d`. -/
theorem cases_place (hd : 0 < d) (n : ℕ) :
    ∃ m i, i < d ∧ n / (2 * d) = m ∧ (n = 2 * d * m + i ∨ n = 2 * d * m + d + i) := by
  have h := Nat.div_add_mod n (2 * d)
  have hl := Nat.mod_lt n (show 0 < 2 * d by omega)
  by_cases hi : n % (2 * d) < d
  · exact ⟨n / (2 * d), n % (2 * d), hi, rfl, .inl h.symm⟩
  · exact ⟨n / (2 * d), n % (2 * d) - d, by omega, rfl, .inr (by omega)⟩

theorem mate_low (hd : 0 < d) (m i : ℕ) (hi : i < d) : mate d (2 * d * m + i) = 2 * d * m + d + i := by
  rw [mate, if_pos (up_add hd m i hi)]; omega

theorem mate_high (hd : 0 < d) (m i : ℕ) (hi : i < d) : mate d (2 * d * m + d + i) = 2 * d * m + i := by
  rw [mate, if_neg (not_up_add hd m i hi)]; omega

theorem mate_mate (hd : 0 < d) (n : ℕ) : mate d (mate d n) = n := by
  obtain ⟨m, i, hi, -, rfl | rfl⟩ := cases_place hd n
  · rw [mate_low hd m i hi, mate_high hd m i hi]
  · rw [mate_high hd m i hi, mate_low hd m i hi]

theorem up_mate (hd : 0 < d) (n : ℕ) : Up d (mate d n) ↔ ¬ Up d n := by
  obtain ⟨m, i, hi, -, rfl | rfl⟩ := cases_place hd n
  · simp [mate_low hd m i hi, not_up_add hd m i hi, up_add hd m i hi]
  · simp [mate_high hd m i hi, not_up_add hd m i hi, up_add hd m i hi]

/-- The mate is in the same block of `2 * d`. -/
theorem mate_div (hd : 0 < d) (n : ℕ) : mate d n / (2 * d) = n / (2 * d) := by
  have low : ∀ m i, i < d → (2 * d * m + i) / (2 * d) = m := fun m i hi => by
    rw [Nat.mul_add_div (by omega), Nat.div_eq_of_lt (by omega)]; rfl
  have high : ∀ m i, i < d → (2 * d * m + d + i) / (2 * d) = m := fun m i hi => by
    rw [Nat.add_assoc, Nat.mul_add_div (by omega), Nat.div_eq_of_lt (by omega)]; rfl
  obtain ⟨m, i, hi, -, rfl | rfl⟩ := cases_place hd n
  · rw [mate_low hd m i hi, low m i hi, high m i hi]
  · rw [mate_high hd m i hi, low m i hi, high m i hi]

/-- The mate is in the same block of any multiple of `2 * d`. -/
theorem mate_div_mul (hd : 0 < d) (q n : ℕ) : mate d n / (2 * d * q) = n / (2 * d * q) := by
  rw [← Nat.div_div_eq_div_mul, ← Nat.div_div_eq_div_mul n, mate_div hd]

theorem up_big_mate (hd : 0 < d) (q n : ℕ) : Up (2 * d * q) (mate d n) ↔ Up (2 * d * q) n := by
  rw [Up, Up, mate_div_mul hd]

/-- The mate stays below any multiple of `2 * d`. -/
theorem mate_lt (hd : 0 < d) (N q n : ℕ) (hN : N = 2 * d * q) (hn : n < N) : mate d n < N := by
  subst hN
  rcases Nat.eq_zero_or_pos q with rfl | hq
  · simp at hn
  · have hp : 0 < 2 * d * q := Nat.mul_pos (by omega) hq
    rw [← Nat.div_eq_zero_iff_lt hp, mate_div_mul hd, Nat.div_eq_zero_iff_lt hp]; exact hn

end places

section cleaner

theorem low_div {d : ℕ} (hd : 0 < d) (m i : ℕ) (hi : i < d) : (2 * d * m + i) / (2 * d) = m := by
  rw [Nat.mul_add_div (by omega), Nat.div_eq_of_lt (by omega)]; rfl

theorem high_div {d : ℕ} (hd : 0 < d) (m i : ℕ) (hi : i < d) : (2 * d * m + d + i) / (2 * d) = m := by
  rw [Nat.add_assoc, Nat.mul_add_div (by omega), Nat.div_eq_of_lt (by omega)]; rfl

/-- `p` changes at most twice along the places of block `m` of size `s`: no four of them alternate. -/
def Calm (p : ℕ → Prop) (s m : ℕ) : Prop :=
  ∀ i j k l, i < j → j < k → k < l → i / s = m → l / s = m →
    ¬ (¬ p i ∧ p j ∧ ¬ p k ∧ p l) ∧ ¬ (p i ∧ ¬ p j ∧ p k ∧ ¬ p l)

theorem Calm.not {p : ℕ → Prop} {s m : ℕ} (h : Calm p s m) : Calm (fun n => ¬ p n) s m := fun i j k l a b c d e => by
  have := h i j k l a b c d e; tauto

/-- What both halves of a calm block hold at one place, one of them holds at any. -/
theorem cleaner_order {p : ℕ → Prop} {d m : ℕ} (hd : 0 < d) (h : Calm p (2 * d) m) {i j : ℕ} (hi : i < d) (hj : j < d)
    (ha : p (2 * d * m + i)) (hb : p (2 * d * m + d + i)) : p (2 * d * m + j) ∨ p (2 * d * m + d + j) := by
  by_contra hc
  rw [not_or] at hc
  rcases lt_trichotomy i j with hij | rfl | hij
  · exact (h _ _ _ _ (by omega) (by omega) (by omega) (low_div hd m i hi) (high_div hd m j hj)).2 ⟨ha, hc.1, hb, hc.2⟩
  · exact hc.1 ha
  · exact (h _ _ _ _ (by omega) (by omega) (by omega) (low_div hd m j hj) (high_div hd m i hi)).1 ⟨hc.1, ha, hc.2, hb⟩

/-- No four places alternate among those at which both halves of a calm block hold. -/
theorem cleaner_min {p : ℕ → Prop} {d m : ℕ} (hd : 0 < d) (h : Calm p (2 * d) m) {i j k l : ℕ} (hij : i < j) (hjk : j < k)
    (hkl : k < l) (hl : l < d) :
    let q := fun n => p (2 * d * m + n) ∧ p (2 * d * m + d + n)
    ¬ (¬ q i ∧ q j ∧ ¬ q k ∧ q l) ∧ ¬ (q i ∧ ¬ q j ∧ q k ∧ ¬ q l) := by
  have hA := h (2 * d * m + i) (2 * d * m + j) (2 * d * m + k) (2 * d * m + l) (by omega) (by omega) (by omega)
    (low_div hd m i (by omega)) (low_div hd m l (by omega))
  have hB := h (2 * d * m + d + i) (2 * d * m + d + j) (2 * d * m + d + k) (2 * d * m + d + l) (by omega) (by omega) (by omega)
    (high_div hd m i (by omega)) (high_div hd m l (by omega))
  have h1 := h (2 * d * m + j) (2 * d * m + k) (2 * d * m + l) (2 * d * m + d + i) (by omega) (by omega) (by omega)
    (low_div hd m j (by omega)) (high_div hd m i (by omega))
  have h2 := h (2 * d * m + i) (2 * d * m + d + j) (2 * d * m + d + k) (2 * d * m + d + l) (by omega) (by omega) (by omega)
    (low_div hd m i (by omega)) (high_div hd m l (by omega))
  have h3 := h (2 * d * m + i) (2 * d * m + j) (2 * d * m + k) (2 * d * m + d + l) (by omega) (by omega) (by omega)
    (low_div hd m i (by omega)) (high_div hd m l (by omega))
  have h4 := h (2 * d * m + l) (2 * d * m + d + i) (2 * d * m + d + j) (2 * d * m + d + k) (by omega) (by omega) (by omega)
    (low_div hd m l (by omega)) (high_div hd m k (by omega))
  intro q
  simp only [q]
  generalize p (2 * d * m + i) = ai at *
  generalize p (2 * d * m + j) = aj at *
  generalize p (2 * d * m + k) = ak at *
  generalize p (2 * d * m + l) = al at *
  generalize p (2 * d * m + d + i) = bi at *
  generalize p (2 * d * m + d + j) = bj at *
  generalize p (2 * d * m + d + k) = bk at *
  generalize p (2 * d * m + d + l) = bl at *
  clear h
  by_cases ai <;> by_cases bi <;> by_cases aj <;> by_cases bj <;> simp_all <;> tauto

/-- The same of the places at which one of the halves holds. -/
theorem cleaner_max {p : ℕ → Prop} {d m : ℕ} (hd : 0 < d) (h : Calm p (2 * d) m) {i j k l : ℕ} (hij : i < j) (hjk : j < k)
    (hkl : k < l) (hl : l < d) :
    let q := fun n => p (2 * d * m + n) ∨ p (2 * d * m + d + n)
    ¬ (¬ q i ∧ q j ∧ ¬ q k ∧ q l) ∧ ¬ (q i ∧ ¬ q j ∧ q k ∧ ¬ q l) := by
  have := cleaner_min hd h.not hij hjk hkl hl
  intro q
  simp only [q]
  simp only [← not_or, not_not] at this
  rw [not_or] at this
  exact ⟨this.2, this.1⟩

end cleaner

section merge

/-- The value of a stage at a place of the lower half of a block of `2 * d`. -/
theorem stg_low {p : ℕ → Prop} {d : ℕ} (k : ℕ) (hd : 0 < d) (m i : ℕ) (hi : i < d) :
    stg k d p (2 * d * m + i) ↔ if Up k (2 * d * m + i) then p (2 * d * m + i) ∧ p (2 * d * m + d + i)
      else p (2 * d * m + i) ∨ p (2 * d * m + d + i) := by
  rw [stg, mate_low hd m i hi]
  by_cases h : Up k (2 * d * m + i) <;> simp [h, up_add hd m i hi]

/-- The value of a stage at a place of the upper half. -/
theorem stg_high {p : ℕ → Prop} {d : ℕ} (k : ℕ) (hd : 0 < d) (m i : ℕ) (hi : i < d) :
    stg k d p (2 * d * m + d + i) ↔ if Up k (2 * d * m + d + i) then p (2 * d * m + i) ∨ p (2 * d * m + d + i)
      else p (2 * d * m + i) ∧ p (2 * d * m + d + i) := by
  rw [stg, mate_high hd m i hi]
  by_cases h : Up k (2 * d * m + d + i) <;> simp [h, not_up_add hd m i hi, or_comm, and_comm]

/-- What holds in the middle of merging blocks of `k` down to distance `d`: every block of `d` is calm, and across blocks of
    `d` of one block of `k` the values are ordered, ascending or descending as the block of `k` is. -/
def Merging (p : ℕ → Prop) (k d : ℕ) : Prop :=
  (∀ m, Calm p d m) ∧ ∀ i j, i / k = j / k → i / d < j / d → (Up k i → p i → p j) ∧ (¬ Up k i → p j → p i)

theorem up_block {k i j : ℕ} (h : i / k = j / k) : Up k i ↔ Up k j := by rw [Up, Up, h]

/-- One stage takes the merge from `2 * d` to `d`. -/
theorem Merging.step {p : ℕ → Prop} {k d q : ℕ} (hd : 0 < d) (hk : k = 2 * d * q) (h : Merging p k (2 * d)) :
    Merging (stg k d p) k d := by
  obtain ⟨hc, ho⟩ := h
  have blk : ∀ m i j, i < d → j < d → (2 * d * m + i) / k = (2 * d * m + d + j) / k := fun m i j hi hj => by
    rw [hk, ← Nat.div_div_eq_div_mul _ (2 * d), ← Nat.div_div_eq_div_mul _ (2 * d), low_div hd m i hi, high_div hd m j hj]
  have blk' : ∀ m i j, i < d → j < d → (2 * d * m + i) / k = (2 * d * m + j) / k := fun m i j hi hj => by
    rw [hk, ← Nat.div_div_eq_div_mul _ (2 * d), ← Nat.div_div_eq_div_mul _ (2 * d), low_div hd m i hi, low_div hd m j hj]
  refine ⟨fun b i j l n hij hjl hln hi hn => ?_, fun i j hb hlt => ?_⟩
  · have e := Nat.div_add_mod b 2
    have range : ∀ x, x / d = b → ∃ y, y < d ∧ x = d * b + y := fun x hx =>
      ⟨x % d, Nat.mod_lt _ hd, by rw [← hx]; exact (Nat.div_add_mod x d).symm⟩
    have hj : j / d = b := le_antisymm (hn ▸ Nat.div_le_div_right (by omega)) (hi ▸ Nat.div_le_div_right (by omega))
    have hl : l / d = b := le_antisymm (hn ▸ Nat.div_le_div_right (by omega)) (hi ▸ Nat.div_le_div_right (by omega))
    obtain ⟨i, hi', rfl⟩ := range i hi
    obtain ⟨j, hj', rfl⟩ := range j hj
    obtain ⟨l, hl', rfl⟩ := range l hl
    obtain ⟨n, hn', rfl⟩ := range n hn
    have mn := cleaner_min hd (hc (b / 2)) (i := i) (j := j) (k := l) (l := n) (by omega) (by omega) (by omega) hn'
    have mx := cleaner_max hd (hc (b / 2)) (i := i) (j := j) (k := l) (l := n) (by omega) (by omega) (by omega) hn'
    rcases Nat.mod_two_eq_zero_or_one b with h0 | h0
    · have eb : d * b = 2 * d * (b / 2) := by
        rw [show 2 * d * (b / 2) = d * (2 * (b / 2)) by ring]; congr 1; omega
      rw [eb, stg_low k hd _ _ hi', stg_low k hd _ _ hj', stg_low k hd _ _ hl', stg_low k hd _ _ hn']
      simp only [up_block (blk' (b / 2) j i hj' hi'), up_block (blk' (b / 2) l i hl' hi'), up_block (blk' (b / 2) n i hn' hi')]
      by_cases hu : Up k (2 * d * (b / 2) + i)
      · simp only [if_pos hu]; exact mn
      · simp only [if_neg hu]; exact mx
    · have eb : d * b = 2 * d * (b / 2) + d := by
        rw [show 2 * d * (b / 2) + d = d * (2 * (b / 2) + 1) by ring]; congr 1; omega
      rw [eb, stg_high k hd _ _ hi', stg_high k hd _ _ hj', stg_high k hd _ _ hl', stg_high k hd _ _ hn']
      simp only [← up_block (blk (b / 2) i i hi' hi'), ← up_block (blk (b / 2) i j hi' hj'), ← up_block (blk (b / 2) i l hi' hl'),
        ← up_block (blk (b / 2) i n hi' hn')]
      by_cases hu : Up k (2 * d * (b / 2) + i)
      · simp only [if_pos hu]; exact mx
      · simp only [if_neg hu]; exact mn
  · rcases (show i / (2 * d) ≤ j / (2 * d) by
      rw [Nat.mul_comm, ← Nat.div_div_eq_div_mul, ← Nat.div_div_eq_div_mul]; exact Nat.div_le_div_right hlt.le).lt_or_eq with h2 | h2
    · have e : ∀ n, mate d n / k = n / k := fun n => by rw [hk]; exact mate_div_mul hd q n
      have e2 : ∀ n, mate d n / (2 * d) = n / (2 * d) := mate_div hd
      have h1 := ho i j hb h2
      have h3 := ho (mate d i) j (by rw [e, hb]) (by rw [e2]; exact h2)
      have h4 := ho i (mate d j) (by rw [e, hb]) (by rw [e2]; exact h2)
      have h5 := ho (mate d i) (mate d j) (by rw [e, e, hb]) (by rw [e2, e2]; exact h2)
      rw [up_block (e i)] at h3 h5
      have si : (stg k d p i → p i ∨ p (mate d i)) ∧ (p i ∧ p (mate d i) → stg k d p i) := by
        rw [stg]; split_ifs
        · exact ⟨fun h => .inl h.1, fun h => h⟩
        · exact ⟨fun h => h, fun h => .inl h.1⟩
      have sj : (stg k d p j → p j ∨ p (mate d j)) ∧ (p j ∧ p (mate d j) → stg k d p j) := by
        rw [stg]; split_ifs
        · exact ⟨fun h => .inl h.1, fun h => h⟩
        · exact ⟨fun h => h, fun h => .inl h.1⟩
      refine ⟨fun hu hs => sj.2 ?_, fun hu hs => si.2 ?_⟩
      · rcases si.1 hs with h | h
        · exact ⟨h1.1 hu h, h4.1 hu h⟩
        · exact ⟨h3.1 hu h, h5.1 hu h⟩
      · rcases sj.1 hs with h | h
        · exact ⟨h1.2 hu h, h3.2 hu h⟩
        · exact ⟨h4.2 hu h, h5.2 hu h⟩
    · obtain ⟨m, i, hi, hm, rfl | rfl⟩ := cases_place hd i <;> obtain ⟨m', j, hj, hm', rfl | rfl⟩ := cases_place hd j <;>
        obtain rfl : m = m' := by rw [← hm, ← hm', h2]
      · exfalso; revert hlt
        rw [show 2 * d * m + i = i + d * (2 * m) by ring, show 2 * d * m + j = j + d * (2 * m) by ring,
          Nat.add_mul_div_left _ _ hd, Nat.add_mul_div_left _ _ hd, Nat.div_eq_of_lt hi, Nat.div_eq_of_lt hj]; omega
      · rw [stg_low k hd m i hi, stg_high k hd m j hj]
        simp only [← up_block hb]
        refine ⟨fun hu => ?_, fun hu => ?_⟩
        · rw [if_pos hu, if_pos hu]; exact fun h => cleaner_order hd (hc m) hi hj h.1 h.2
        · rw [if_neg hu, if_neg hu]; exact fun h => cleaner_order hd (hc m) hj hi h.1 h.2
      · exfalso; revert hlt
        rw [show 2 * d * m + d + i = i + d * (2 * m + 1) by ring, show 2 * d * m + j = j + d * (2 * m) by ring,
          Nat.add_mul_div_left _ _ hd, Nat.add_mul_div_left _ _ hd, Nat.div_eq_of_lt hi, Nat.div_eq_of_lt hj]; omega
      · exfalso; revert hlt
        rw [show 2 * d * m + d + i = i + d * (2 * m + 1) by ring, show 2 * d * m + d + j = j + d * (2 * m + 1) by ring,
          Nat.add_mul_div_left _ _ hd, Nat.add_mul_div_left _ _ hd, Nat.div_eq_of_lt hi, Nat.div_eq_of_lt hj]; omega

end merge

section sort

/-- The stages `l`, in order. -/
def run {α : Type*} [Lattice α] (l : List (ℕ × ℕ)) (x : ℕ → α) : ℕ → α := l.foldl (fun y s => stg s.1 s.2 y) x

/-- The stages of merging blocks of `2 ^ (a + 1)`, from distance `2 ^ b` down. -/
def down (a : ℕ) : ℕ → List (ℕ × ℕ)
  | 0 => [(2 ^ (a + 1), 1)]
  | b + 1 => (2 ^ (a + 1), 2 ^ (b + 1)) :: down a b

/-- The stages of the first `n` merges. -/
def stages : ℕ → List (ℕ × ℕ)
  | 0 => []
  | n + 1 => stages n ++ down n n

theorem merge_down {p : ℕ → Prop} (a b : ℕ) (hb : b ≤ a) (h : Merging p (2 ^ (a + 1)) (2 ^ (b + 1))) :
    Merging (run (down a b) p) (2 ^ (a + 1)) 1 := by
  have hq : ∀ b, b ≤ a → 2 ^ (a + 1) = 2 * 2 ^ b * 2 ^ (a - b) := fun b hb => by
    rw [Nat.mul_assoc, ← pow_add, ← pow_succ', Nat.add_sub_cancel' hb]
  induction b generalizing p with
  | zero => exact h.step (d := 1) one_pos (hq 0 hb)
  | succ b ih =>
    exact ih (by omega) (Merging.step (d := 2 ^ (b + 1)) (Nat.two_pow_pos _) (hq (b + 1) hb) (by rw [← pow_succ']; exact h))

/-- Blocks of `2 * k` whose halves are merged are calm: the first half ascends, the second descends. -/
theorem calm_of_merged {p : ℕ → Prop} {k : ℕ} (hk : 0 < k) (h : Merging p k 1) (m : ℕ) : Calm p (2 * k) m := by
  have asc : ∀ i j, i < j → i / k = j / k → (Up k i → p i → p j) ∧ (¬ Up k i → p j → p i) := fun i j hij hb =>
    h.2 i j hb (by simpa using hij)
  have block : ∀ i, i / (2 * k) = m → i / k / 2 = m := fun i hi => by
    rw [Nat.div_div_eq_div_mul, Nat.mul_comm]; exact hi
  have same : ∀ i j, i / (2 * k) = m → j / (2 * k) = m → (Up k i ↔ Up k j) → i / k = j / k := fun i j hi hj hu => by
    have := block i hi; have := block j hj
    unfold Up at hu; omega
  have mono : ∀ i j, i < j → i / (2 * k) = m → j / (2 * k) = m → Up k j → Up k i := fun i j hij hi hj hu => by
    have := block i hi; have := block j hj
    have := Nat.div_le_div_right (c := k) hij.le
    unfold Up at hu ⊢; omega
  intro i j l n hij hjl hln hi hn
  have hj : j / (2 * k) = m := le_antisymm (hn ▸ Nat.div_le_div_right (by omega)) (hi ▸ Nat.div_le_div_right (by omega))
  have hl : l / (2 * k) = m := le_antisymm (hn ▸ Nat.div_le_div_right (by omega)) (hi ▸ Nat.div_le_div_right (by omega))
  have key : ∀ a b c, a < b → b < c → a / (2 * k) = m → b / (2 * k) = m → c / (2 * k) = m → ¬ (p a ∧ ¬ p b ∧ p c) := by
    rintro a b c hab hbc ha hb hc ⟨pa, pb, pc⟩
    by_cases hu : Up k b
    · have hua := mono a b hab ha hb hu
      exact pb ((asc a b hab (same a b ha hb (by simp [hu, hua]))).1 hua pa)
    · have huc : ¬ Up k c := fun h => hu (mono b c hbc hb hc h)
      exact pb ((asc b c hbc (same b c hb hc (by simp [hu, huc]))).2 hu pc)
  exact ⟨fun ⟨_, b, c, d⟩ => key j l n hjl hln hj hl hn ⟨b, c, d⟩, fun ⟨a, b, c, _⟩ => key i j l hij hjl hi hj hl ⟨a, b, c⟩⟩

theorem run_append {α : Type*} [Lattice α] (l l' : List (ℕ × ℕ)) (x : ℕ → α) : run (l ++ l') x = run l' (run l x) :=
  List.foldl_append ..

/-- After `n` merges the blocks of `2 ^ n` are in order, in turn ascending and descending. -/
theorem merged_stages (p : ℕ → Prop) (n : ℕ) : Merging (run (stages n) p) (2 ^ n) 1 := by
  induction n with
  | zero =>
    refine ⟨fun m i j k l hij hjk hkl hi hl => absurd (hi.trans hl.symm) ?_, fun i j hb hlt => absurd hb ?_⟩
    · rw [Nat.div_one, Nat.div_one]; omega
    · rw [pow_zero]; omega
  | succ n ih =>
    rw [stages, run_append]
    refine merge_down n n le_rfl ⟨fun m => ?_, fun i j hb hlt => absurd hb hlt.ne⟩
    rw [pow_succ']
    exact calm_of_merged (Nat.two_pow_pos _) ih m

variable {α : Type*} [LinearOrder α]

/-- A threshold passes through a stage. -/
theorem le_stg (k d : ℕ) (x : ℕ → α) (c : α) (n : ℕ) : c ≤ stg k d x n ↔ stg k d (fun n => c ≤ x n) n := by
  unfold stg
  split_ifs
  · exact le_inf_iff
  · exact le_sup_iff

theorem le_run (l : List (ℕ × ℕ)) (x : ℕ → α) (c : α) : (fun n => c ≤ run l x n) = run l (fun n => c ≤ x n) := by
  induction l generalizing x with
  | nil => rfl
  | cons s l ih =>
    show (fun n => c ≤ run l (stg s.1 s.2 x) n) = run l (stg s.1 s.2 fun n => c ≤ x n)
    rw [ih]
    exact congrArg (run l) (funext fun n => propext (le_stg ..))

/-- After `n` merges the first `2 ^ n` places ascend. -/
theorem run_ascends (x : ℕ → α) (n : ℕ) {i j : ℕ} (hij : i ≤ j) (hj : j < 2 ^ n) :
    run (stages n) x i ≤ run (stages n) x j := by
  rcases hij.lt_or_eq with hij | rfl
  · have h := (merged_stages (fun m => run (stages n) x i ≤ x m) n).2 i j
      (by rw [Nat.div_eq_of_lt hj, Nat.div_eq_of_lt (by omega)]) (by simpa using hij)
    rw [← le_run] at h
    exact h.1 (by rw [Up, Nat.div_eq_of_lt (by omega)]) le_rfl
  · exact le_rfl

/-- A stage rearranges: it exchanges the pairs that are out of order. -/
theorem stg_eq_comp (x : ℕ → α) {k d q r : ℕ} {N : ℕ} (hd : 0 < d) (hk : k = 2 * d * q) (hN : N = 2 * d * r) :
    ∃ σ : Equiv.Perm (Fin N), ∀ n : Fin N, stg k d x n = x (σ n) := by
  have hmk : ∀ n, Up k (mate d n) ↔ Up k n := fun n => by rw [hk]; exact up_big_mate hd q n
  let π : ℕ → ℕ := fun n => if stg k d x n = x n then n else mate d n
  have fixed : ∀ n, stg k d x n = x n → stg k d x (mate d n) = x (mate d n) := fun n h => by
    unfold stg at h ⊢
    simp only [mate_mate hd, up_mate hd, hmk]
    by_cases h1 : Up d n <;> by_cases h2 : Up k n <;> simp [h1, h2] at h ⊢ <;> exact h
  have inv : Function.Involutive π := fun n => by
    by_cases h : stg k d x n = x n
    · simp only [π, if_pos h]
    · have h' : ¬ stg k d x (mate d n) = x (mate d n) := fun h' => h (by simpa [mate_mate hd] using fixed _ h')
      simp only [π, if_neg h, if_neg h', mate_mate hd]
  have lt : ∀ n : Fin N, π n < N := fun n => by
    simp only [π]; split_ifs
    · exact n.2
    · exact mate_lt hd N r n hN n.2
  refine ⟨Function.Involutive.toPerm (fun n => ⟨π n, lt n⟩) fun n => Fin.ext (inv n), fun n => ?_⟩
  show stg k d x n = x (π n)
  by_cases h : stg k d x n = x n
  · simp only [π, if_pos h, h]
  · simp only [π, if_neg h]
    unfold stg at h ⊢
    split_ifs at h ⊢
    · rcases min_choice (x n) (x (mate d n)) with e | e
      · exact absurd e h
      · exact e
    · rcases max_choice (x n) (x (mate d n)) with e | e
      · exact absurd e h
      · exact e

/-- Stages of powers of two below `2 ^ n` rearrange the first `2 ^ n` places. -/
theorem run_eq_comp (n : ℕ) (l : List (ℕ × ℕ)) (hl : ∀ s ∈ l, ∃ a b, b ≤ a ∧ a < n ∧ s = (2 ^ (a + 1), 2 ^ b)) (x : ℕ → α) :
    ∃ σ : Equiv.Perm (Fin (2 ^ n)), ∀ m : Fin (2 ^ n), run l x m = x (σ m) := by
  induction l generalizing x with
  | nil => exact ⟨Equiv.refl _, fun m => rfl⟩
  | cons s l ih =>
    obtain ⟨a, b, hb, ha, rfl⟩ := hl _ List.mem_cons_self
    obtain ⟨σ, hσ⟩ := ih (fun s hs => hl s (List.mem_cons_of_mem _ hs)) (stg (2 ^ (a + 1)) (2 ^ b) x)
    obtain ⟨τ, hτ⟩ := stg_eq_comp (N := 2 ^ n) x (k := 2 ^ (a + 1)) (d := 2 ^ b) (q := 2 ^ (a - b)) (r := 2 ^ (n - 1 - b))
      (Nat.two_pow_pos _) (by rw [Nat.mul_assoc, ← pow_add, ← pow_succ']; congr 1; omega)
      (by rw [Nat.mul_assoc, ← pow_add, ← pow_succ']; congr 1; omega)
    exact ⟨σ.trans τ, fun m => (hσ m).trans (hτ (σ m))⟩

theorem mem_down {a b : ℕ} {s : ℕ × ℕ} (h : s ∈ down a b) : ∃ b', b' ≤ b ∧ s = (2 ^ (a + 1), 2 ^ b') := by
  induction b with
  | zero => exact ⟨0, le_rfl, by simpa [down] using h⟩
  | succ b ih =>
    rcases List.mem_cons.mp h with rfl | h
    · exact ⟨b + 1, le_rfl, rfl⟩
    · obtain ⟨b', hb, e⟩ := ih h; exact ⟨b', by omega, e⟩

theorem mem_stages {n : ℕ} {s : ℕ × ℕ} (h : s ∈ stages n) : ∃ a b, b ≤ a ∧ a < n ∧ s = (2 ^ (a + 1), 2 ^ b) := by
  induction n with
  | zero => simp [stages] at h
  | succ n ih =>
    rcases List.mem_append.mp h with h | h
    · obtain ⟨a, b, h1, h2, e⟩ := ih h; exact ⟨a, b, h1, by omega, e⟩
    · obtain ⟨b, hb, e⟩ := mem_down h; exact ⟨n, b, hb, by omega, e⟩

/-- Two rearrangements of one sequence that both ascend are equal. -/
theorem ascending_unique {N : ℕ} (x : Fin N → α) (σ τ : Equiv.Perm (Fin N)) (hσ : Monotone (x ∘ σ)) (hτ : Monotone (x ∘ τ)) :
    x ∘ σ = x ∘ τ := by
  apply List.ofFn_injective
  refine List.Perm.eq_of_sortedLE (List.sortedLE_ofFn_iff.mpr hσ) (List.sortedLE_ofFn_iff.mpr hτ) ?_
  exact (Equiv.Perm.ofFn_comp_perm σ x).trans (Equiv.Perm.ofFn_comp_perm τ x).symm

/-- After all the merges, the first `2 ^ n` places hold any ascending rearrangement of what they held. -/
theorem run_stages (n : ℕ) (x : ℕ → α) (τ : Equiv.Perm (Fin (2 ^ n))) (hτ : Monotone fun m => x (τ m)) (m : Fin (2 ^ n)) :
    run (stages n) x m = x (τ m) := by
  obtain ⟨σ, hσ⟩ := run_eq_comp n (stages n) (fun s hs => mem_stages hs) x
  have hm : Monotone ((fun m : Fin (2 ^ n) => x m) ∘ σ) := fun i j hij => by
    show x (σ i) ≤ x (σ j)
    rw [← hσ, ← hσ]
    exact run_ascends x n hij j.2
  rw [hσ]
  exact congrFun (ascending_unique (fun m : Fin (2 ^ n) => x m) σ τ hm hτ) m

end sort

end Cert.Proof.Bitonic
-- ==== Proof.Stage.lean ====
/-
  One trip of the stage loop, read on a column of the scratch: it is the compare-exchange stage `Bitonic.stg` of the block size
  and the distance its two words name, whether the pairs lie inside the chunks of 2048 rows or across them.
-/
module

public import proofs.«01_k».proof.Proof.SortRun
public import proofs.«01_k».proof.Proof.Bitonic
public import Idealize.ShloMosaic.Lib.Pointwise
public import Idealize.ShloMosaic.Lib.WritesUnit
public import Mathlib.Data.Nat.Bitwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Bitonic

/-- Column `j` of an array of 16384 rows, as a sequence. -/
def col (v : Vec Ideal S16384x100 .f32) (j : Fin 100) (n : ℕ) : EReal := if h : n < 16384 then v (ix2 ⟨n, h⟩ j) else 0

theorem col_of_lt (v : Vec Ideal S16384x100 .f32) (j : Fin 100) (r : Fin 16384) : col v j r = v (ix2 r j) := dif_pos r.2

/-- The mask test of a power of two, as the parity of the quotient. -/
theorem mask_test (x w : BitVec 32) (b : ℕ) (hw : w.toNat = 2 ^ b) :
    IntOp.cmpi .eq (IntOp.andi x w) 0#32 = BitVec.ofBool (decide (Up w.toNat x.toNat)) := by
  have h : (IntOp.andi x w = 0#32) ↔ Up w.toNat x.toNat := by
    rw [← BitVec.toNat_inj]
    show (x &&& w).toNat = 0 ↔ _
    rw [BitVec.toNat_and, hw, Nat.and_two_pow, Nat.testBit_eq_decide_div_mod_eq, Up]
    have := Nat.mod_two_eq_zero_or_one (x.toNat / 2 ^ b)
    rcases this with h | h <;> simp [h]
  show BitVec.ofBool (decide (IntOp.andi x w = 0#32)) = _
  exact congrArg BitVec.ofBool (decide_eq_decide.mpr h)

theorem up_mul_add {d : ℕ} (hd : 0 < d) (q c n : ℕ) : Up d (2 * d * q * c + n) ↔ Up d n := by
  have : (2 * d * q * c + n) / d = n / d + 2 * (q * c) := by
    rw [show 2 * d * q * c + n = n + d * (2 * (q * c)) by ring, Nat.add_mul_div_left _ _ hd]
  rw [Up, Up, this, Nat.add_mul_mod_self_left]

theorem mate_mul_add {d : ℕ} (hd : 0 < d) (q c n : ℕ) : mate d (2 * d * q * c + n) = 2 * d * q * c + mate d n := by
  have := up_mul_add hd q c n
  have hdn : ¬ Up d n → d ≤ n := fun h => by
    by_contra hlt
    exact h (by rw [Up, Nat.div_eq_of_lt (by omega)])
  unfold mate
  by_cases h : Up d n
  · rw [if_pos h, if_pos (this.mpr h)]; omega
  · rw [if_neg h, if_neg (fun h' => h (this.mp h'))]; have := hdn h; omega

theorem trips3 : k0_t3_loop.trips = 8 := by decide

theorem chunk_place (c : Fin k0_t3_loop.trips) (i : Fin 2048) :
    (IntOp.addi (BitVec.ofNat 32 i) (Scalar.muli (Scf.iv 0#32 1#32 c) 2048#32)).toNat = 2048 * c + i := by
  have hc : c.val < 8 := trips3 ▸ c.2
  have hi := i.2
  show (BitVec.ofNat 32 i + (0#32 + BitVec.ofNat 32 c * 1#32) * 2048#32).toNat = _
  simp only [BitVec.toNat_add, BitVec.toNat_mul, BitVec.toNat_ofNat]
  omega

/-- What a trip over the chunks stores is the stage's value at the chunk's rows. -/
theorem pay6_apply (wk wd : BitVec 32) (a b : ℕ) (ha : wk.toNat = 2 ^ a) (hb : wd.toNat = 2 ^ b) (hb' : b < 11)
    (c : Fin k0_t3_loop.trips) (v : Vec Ideal S2048x100 .f32) (g : ℕ → EReal) (j : Fin 100)
    (hv : ∀ i : Fin 2048, v (ix2 i j) = g (2048 * c + i)) (i : Fin 2048) :
    k0_pay6 (F := Ideal) wk wd c v (ix2 i j) = stg wk.toNat wd.toNat g (2048 * c + i) := by
  have hd : 0 < wd.toNat := hb ▸ Nat.two_pow_pos b
  have hq : 2048 = 2 * wd.toNat * 2 ^ (10 - b) := by
    rw [hb, Nat.mul_assoc, ← pow_add, ← pow_succ']; rw [show b + (10 - b) + 1 = 11 by omega]; rfl
  have hm := mate_lt hd 2048 (2 ^ (10 - b)) i hq i.2
  have hmate : mate wd.toNat (2048 * c + i) = 2048 * c + mate wd.toNat i := by
    have := mate_mul_add hd (2 ^ (10 - b)) c i
    rwa [← hq] at this
  have hup : Up wd.toNat (2048 * c + i) ↔ Up wd.toNat i := by
    have := up_mul_add hd (2 ^ (10 - b)) c i
    rwa [← hq] at this
  have hlt : wd.toNat < 2048 := by
    have : 2 ^ b < 2 ^ 11 := Nat.pow_lt_pow_right (by decide) hb'
    omega
  have hsub : (Scalar.subi (2048#32) wd).toNat = 2048 - wd.toNat := by
    show (2048#32 - wd).toNat = _
    rw [BitVec.toNat_sub]
    simp only [BitVec.toNat_ofNat]
    omega
  have hi := i.2
  have partner : Scalar.select (BitVec.ofBool (decide (Up wd.toNat (2048 * c + i))))
      (v (ix2 ⟨(i.val + 2048 - (Scalar.subi (2048#32) wd).toNat % 2048) % 2048, Nat.mod_lt _ (by decide)⟩ j))
      (v (ix2 ⟨(i.val + 2048 - wd.toNat % 2048) % 2048, Nat.mod_lt _ (by decide)⟩ j))
      = g (mate wd.toNat (2048 * c + i)) := by
    rw [hmate]
    have hmi : mate wd.toNat i = if Up wd.toNat i then i.val + wd.toNat else i.val - wd.toNat := rfl
    by_cases h : Up wd.toNat i
    · rw [if_pos h] at hmi
      have : Up wd.toNat (2048 * c + i) := hup.mpr h
      simp only [this, decide_true]
      show v _ = _
      rw [hv]
      congr 2
      show (i.val + 2048 - (Scalar.subi (2048#32) wd).toNat % 2048) % 2048 = _
      rw [hsub, hmi]
      omega
    · rw [if_neg h] at hmi
      have : ¬ Up wd.toNat (2048 * c + i) := fun h' => h (hup.mp h')
      have hge : wd.toNat ≤ i := by
        by_contra hlt
        exact h (by rw [Up, Nat.div_eq_of_lt (by omega)])
      simp only [this, decide_false]
      show v _ = _
      rw [hv]
      congr 2
      show (i.val + 2048 - wd.toNat % 2048) % 2048 = _
      rw [hmi]
      omega
  pointwise [k0_pay6]
  rw [mask_test _ wd b hb, mask_test _ wk a ha, chunk_place, partner, hv]
  unfold stg
  by_cases h1 : Up wd.toNat (2048 * c + i) <;> by_cases h2 : Up wk.toNat (2048 * c + i) <;> simp [h1, h2] <;> rfl

section Trip

variable (c : Dev nD) (arg0 : Memref sig .tc .smem S105 .i32) (harg0 : arg0.IsWhole) (arg1 : Memref sig .tc .smem S105 .i32) (harg1 : arg1.IsWhole)
  (arg2 : Memref sig .tc .vmem S16384x100 .f32) (harg2 : arg2.IsWhole) (arg3 : Memref sig .tc .vmem S16x100 .f32) (harg3 : arg3.IsWhole)
  (arg4 : Memref sig .tc .vmem S16384x100 .f32) (harg4 : arg4.IsWhole)

/-- The piece a trip over the chunks writes. -/
theorem tripL3 (wk wd : BitVec 32) (k : Fin k0_t3_loop.trips) (f : BufTy.Contents (Elt Ideal) arg4.view.ty) :
    tripL_k0_t3 (F := Ideal) 𝒱₀ c none arg0 harg0 arg1 harg1 arg2 harg2 arg3 harg3 arg4 harg4 wk wd k f
      = [⟨Rect.unit (s := S16384x100) (k0_off4 k) S2048x100.size (k0_off4_inb k),
          k0_pay6 wk wd k (View.ld (arg4.view.read (Elt Ideal) f) (Rect.unit (s := S16384x100) (k0_off4 k) S2048x100.size (k0_off4_inb k)))⟩] := by
  unfold tripL_k0_t3 trip_k0_t3
  rfl

theorem off4_eq : ∀ k : Fin k0_t3_loop.trips, k0_off4 k = ![2048 * k.val, 0] := by decide

/-- A load of 2048 whole rows from row `o`, at an element. -/
theorem ld_rows (v : Vec Ideal S16384x100 .f32) (off : Fin 2 → ℕ) (inb : ∀ a, off a + S2048x100.size a ≤ S16384x100.size a) (o : ℕ)
    (hoff : off = ![o, 0]) (i : Fin 2048) (j : Fin 100) (h : o + i.val < 16384) :
    View.ld v (Rect.unit (s := S16384x100) off S2048x100.size inb) (ix2 i j) = v (ix2 ⟨o + i.val, h⟩ j) := by
  subst hoff
  pointwise
  try rfl

/-- The chunks' loop before trip `n`: the rows of the first `n` chunks hold the stage's values, the others what they held. -/
theorem read3 (wk wd : BitVec 32) (a b : ℕ) (ha : wk.toNat = 2 ^ a) (hb : wd.toNat = 2 ^ b) (hb' : b < 11)
    (f : BufTy.Contents (Elt Ideal) arg4.view.ty) (j : Fin 100) (n : ℕ) (hn : n ≤ 8) (r : Fin 16384) :
    arg4.view.read (Elt Ideal) (arg4.view.writes (Elt Ideal) f
        (pb_k0_t3 (F := Ideal) 𝒱₀ c none arg0 harg0 arg1 harg1 arg2 harg2 arg3 harg3 arg4 harg4 wk wd f n)) (ix2 r j)
      = if r.val < 2048 * n then stg wk.toNat wd.toNat (col (arg4.view.read (Elt Ideal) f) j) r
        else arg4.view.read (Elt Ideal) f (ix2 r j) := by
  induction n generalizing r with
  | zero => simp [pb_k0_t3]
  | succ n ih =>
    have hlt : n < k0_t3_loop.trips := by rw [trips3]; omega
    have hs := pb_k0_t3_succ (F := Ideal) 𝒱₀ c none arg0 harg0 arg1 harg1 arg2 harg2 arg3 harg3 arg4 harg4 wk wd f ⟨n, hlt⟩
    simp only at hs
    rw [hs, tripL3, List.singleton_append]
    by_cases hr : 2048 * n ≤ r.val ∧ r.val < 2048 * n + 2048
    · rw [View.read_writes_cons_rows_of_mem (d := ![16384, 100]) arg4.view f (o := 2048 * n) (k0_off4_inb ⟨n, hlt⟩) _ _ (ix2 r j)
        (ix2 (⟨r.val - 2048 * n, by omega⟩ : Fin 2048) j) (off4_eq ⟨n, hlt⟩) (by show r.val = 2048 * n + (r.val - 2048 * n); omega) rfl,
        if_pos (by omega)]
      rw [pay6_apply wk wd a b ha hb hb' ⟨n, hlt⟩ _ (col (arg4.view.read (Elt Ideal) f) j) j (fun i => ?_)]
      · congr 1
        show 2048 * n + (r.val - 2048 * n) = r.val
        omega
      · have hi := i.2
        rw [ld_rows _ _ _ (2048 * n) (off4_eq ⟨n, hlt⟩) i j (by omega), ih (by omega), if_neg (by simp)]
        exact (col_of_lt _ _ _).symm
    · rw [View.read_writes_cons_rows_of_not_mem (d := ![16384, 100]) arg4.view f (o := 2048 * n) (W := 2048) (k0_off4_inb ⟨n, hlt⟩) _ _ (ix2 r j)
        (off4_eq ⟨n, hlt⟩) rfl (by show r.val < 2048 * n ∨ 2048 * n + 2048 ≤ r.val; omega), ih (by omega)]
      by_cases h2 : r.val < 2048 * n
      · rw [if_pos h2, if_pos (by omega)]
      · rw [if_neg h2, if_neg (by omega)]

/-- The 2048 rows a trip over the pairs of chunks loads first, and those it loads second. -/
def lowRows (wd : BitVec 32) (h : k0_chk1 wd) (h1 : k0_cond1 wd = 1#1) (k : Fin k0_t2_loop.trips) (f : BufTy.Contents (Elt Ideal) arg4.view.ty) :
    Vec Ideal S2048x100 .f32 :=
  View.ld (arg4.view.read (Elt Ideal) f) (Rect.unit (s := S16384x100) (k0_off2 wd k) S2048x100.size (k0_off2_inb wd h k h1))

@[inherit_doc lowRows]
def highRows (wd : BitVec 32) (h : k0_chk1 wd) (h1 : k0_cond1 wd = 1#1) (k : Fin k0_t2_loop.trips) (f : BufTy.Contents (Elt Ideal) arg4.view.ty) :
    Vec Ideal S2048x100 .f32 :=
  View.ld (arg4.view.read (Elt Ideal) f) (Rect.unit (s := S16384x100) (k0_off3 wd k) S2048x100.size (k0_off3_inb wd h k h1))

/-- The distance and the block size, in chunks, of the stages whose pairs lie across chunks. -/
def crossing : List (ℕ × ℕ) := [(1, 2), (1, 4), (2, 4), (1, 8), (2, 8), (4, 8)]

/-- The first chunk of pair `p` at a distance of `dc` chunks. -/
def chunkLow (dc p : ℕ) : ℕ := p / dc * (2 * dc) + p % dc

/-- The pair chunk `q` belongs to. -/
def pairOf (dc q : ℕ) : ℕ := q / (2 * dc) * dc + q % dc

/-- The pieces a trip over the pairs of chunks writes; the word `W wd k` is the row the first of the pair's chunks starts at. -/
theorem tripL2 : ∃ W : BitVec 32 → Fin k0_t2_loop.trips → BitVec 32,
    (∀ s ∈ crossing, ∀ p : Fin k0_t2_loop.trips, (W (BitVec.ofNat 32 (2048 * s.1)) p).toNat = 2048 * chunkLow s.1 p.val) ∧
    ∀ (wk wd : BitVec 32) (h : k0_chk1 wd) (h1 : k0_cond1 wd = 1#1) (k : Fin k0_t2_loop.trips) (f : BufTy.Contents (Elt Ideal) arg4.view.ty),
    tripL_k0_t2 (F := Ideal) 𝒱₀ c none arg0 harg0 arg1 harg1 arg2 harg2 arg3 harg3 arg4 harg4 wk wd h h1 (quot wd) k f
      = [⟨Rect.unit (s := S16384x100) (k0_off3 wd k) S2048x100.size (k0_off3_inb wd h k h1),
          k0_pay5 (k0_pay1 (lowRows arg4 wd h h1 k f) (highRows arg4 wd h h1 k f)) (k0_pay2 (lowRows arg4 wd h h1 k f) (highRows arg4 wd h h1 k f))
            (Scalar.andi (W wd k) wk) 0#32⟩,
         ⟨Rect.unit (s := S16384x100) (k0_off2 wd k) S2048x100.size (k0_off2_inb wd h k h1),
          k0_pay4 (k0_pay1 (lowRows arg4 wd h h1 k f) (highRows arg4 wd h h1 k f)) (k0_pay2 (lowRows arg4 wd h h1 k f) (highRows arg4 wd h h1 k f))
            (Scalar.andi (W wd k) wk) 0#32⟩] := by
  refine ⟨?W, ?h1, ?h2⟩
  case h2 =>
    intro wk wd h h1 k f
    unfold tripL_k0_t2 trip_k0_t2
    rfl
  case h1 => decide

theorem pay4_apply (wk w : BitVec 32) (a : ℕ) (ha : wk.toNat = 2 ^ a) (u v : Vec Ideal S2048x100 .f32) (i : Fin 2048) (j : Fin 100) :
    k0_pay4 (F := Ideal) (k0_pay1 u v) (k0_pay2 u v) (Scalar.andi w wk) 0#32 (ix2 i j)
      = if Up wk.toNat w.toNat then u (ix2 i j) ⊓ v (ix2 i j) else u (ix2 i j) ⊔ v (ix2 i j) := by
  have hm : Scalar.cmpi .eq (Scalar.andi w wk) 0#32 = BitVec.ofBool (decide (Up wk.toNat w.toNat)) := mask_test w wk a ha
  unfold k0_pay4
  rw [hm]
  by_cases hu : Up wk.toNat w.toNat <;> simp only [hu, decide_true, decide_false, if_true, if_false] <;> pointwise [k0_pay1, k0_pay2] <;> rfl

theorem pay5_apply (wk w : BitVec 32) (a : ℕ) (ha : wk.toNat = 2 ^ a) (u v : Vec Ideal S2048x100 .f32) (i : Fin 2048) (j : Fin 100) :
    k0_pay5 (F := Ideal) (k0_pay1 u v) (k0_pay2 u v) (Scalar.andi w wk) 0#32 (ix2 i j)
      = if Up wk.toNat w.toNat then u (ix2 i j) ⊔ v (ix2 i j) else u (ix2 i j) ⊓ v (ix2 i j) := by
  have hm : Scalar.cmpi .eq (Scalar.andi w wk) 0#32 = BitVec.ofBool (decide (Up wk.toNat w.toNat)) := mask_test w wk a ha
  unfold k0_pay5
  rw [hm]
  by_cases hu : Up wk.toNat w.toNat <;> simp only [hu, decide_true, decide_false, if_true, if_false] <;> pointwise [k0_pay1, k0_pay2] <;> rfl

theorem pair_facts : ∀ s ∈ crossing, ∀ p : Fin 4, Up s.1 (chunkLow s.1 p) ∧ ¬ Up s.1 (chunkLow s.1 p + s.1)
    ∧ (Up s.2 (chunkLow s.1 p + s.1) ↔ Up s.2 (chunkLow s.1 p)) ∧ chunkLow s.1 p + s.1 < 8
    ∧ ∀ q : Fin 8, pairOf s.1 q = p.val ↔ q.val = chunkLow s.1 p ∨ q.val = chunkLow s.1 p + s.1 := by
  unfold Up; decide

theorem pairOf_lt : ∀ s ∈ crossing, ∀ q : Fin 8, pairOf s.1 q < 4 := by decide

theorem off2_eq : ∀ s ∈ crossing, ∀ p : Fin k0_t2_loop.trips, k0_off2 (BitVec.ofNat 32 (2048 * s.1)) p = ![2048 * chunkLow s.1 p.val, 0] := by
  decide

theorem off3_eq : ∀ s ∈ crossing, ∀ p : Fin k0_t2_loop.trips, k0_off3 (BitVec.ofNat 32 (2048 * s.1)) p = ![2048 * (chunkLow s.1 p.val + s.1), 0] := by
  decide

theorem trips2 : k0_t2_loop.trips = 4 := by decide

theorem crossing_pos : ∀ s ∈ crossing, 0 < s.1 ∧ s.1 < 8 := by decide

theorem up_chunk (e q i : ℕ) (hi : i < 2048) : Up (2048 * e) (2048 * q + i) ↔ Up e q := by
  rw [Up, Up, ← Nat.div_div_eq_div_mul, show (2048 * q + i) / 2048 = q by omega]

/-- The pairs' loop before trip `n`: the rows of the first `n` pairs of chunks hold the stage's values, the others what they held. -/
theorem read2 (s : ℕ × ℕ) (hs : s ∈ crossing) (wk : BitVec 32) (a : ℕ) (ha : wk.toNat = 2 ^ a) (hk : wk.toNat = 2048 * s.2)
    (h : k0_chk1 (BitVec.ofNat 32 (2048 * s.1))) (h1 : k0_cond1 (BitVec.ofNat 32 (2048 * s.1)) = 1#1)
    (f : BufTy.Contents (Elt Ideal) arg4.view.ty) (j : Fin 100) (n : ℕ) (hn : n ≤ 4) (r : Fin 16384) :
    arg4.view.read (Elt Ideal) (arg4.view.writes (Elt Ideal) f
        (pb_k0_t2 (F := Ideal) 𝒱₀ c none arg0 harg0 arg1 harg1 arg2 harg2 arg3 harg3 arg4 harg4 wk (BitVec.ofNat 32 (2048 * s.1)) h h1
          (quot (BitVec.ofNat 32 (2048 * s.1))) f n)) (ix2 r j)
      = if pairOf s.1 (r / 2048) < n then stg (2048 * s.2) (2048 * s.1) (col (arg4.view.read (Elt Ideal) f) j) r
        else arg4.view.read (Elt Ideal) f (ix2 r j) := by
  induction n generalizing r with
  | zero => simp [pb_k0_t2]
  | succ n ih =>
    have hlt : n < k0_t2_loop.trips := by rw [trips2]; omega
    have hss := pb_k0_t2_succ (F := Ideal) 𝒱₀ c none arg0 harg0 arg1 harg1 arg2 harg2 arg3 harg3 arg4 harg4 wk (BitVec.ofNat 32 (2048 * s.1)) h h1
      (quot (BitVec.ofNat 32 (2048 * s.1))) f ⟨n, hlt⟩
    simp only at hss
    obtain ⟨W, hW, hL⟩ := tripL2 c arg0 harg0 arg1 harg1 arg2 harg2 arg3 harg3 arg4 harg4
    have hL := hL wk (BitVec.ofNat 32 (2048 * s.1)) h h1 ⟨n, hlt⟩
      (arg4.view.writes (Elt Ideal) f (pb_k0_t2 (F := Ideal) 𝒱₀ c none arg0 harg0 arg1 harg1 arg2 harg2 arg3 harg3 arg4 harg4 wk
        (BitVec.ofNat 32 (2048 * s.1)) h h1 (quot (BitVec.ofNat 32 (2048 * s.1))) f n))
    rw [hss, hL, List.cons_append, List.singleton_append]
    obtain ⟨hA, hB, hAB, hlt8, hq⟩ := pair_facts s hs ⟨n, by omega⟩
    obtain ⟨hpos, hlt8'⟩ := crossing_pos s hs
    simp only at hA hB hAB hlt8 hq
    have ho2 := off2_eq s hs ⟨n, hlt⟩
    have ho3 := off3_eq s hs ⟨n, hlt⟩
    simp only at ho2 ho3
    have hw' : (W (BitVec.ofNat 32 (2048 * s.1)) ⟨n, hlt⟩).toNat = 2048 * chunkLow s.1 n + 0 := hW s hs ⟨n, hlt⟩
    clear hW
    generalize W (BitVec.ofNat 32 (2048 * s.1)) ⟨n, hlt⟩ = w at *
    have hupw : Up wk.toNat w.toNat ↔ Up s.2 (chunkLow s.1 n) := by rw [hw', hk]; exact up_chunk _ _ _ (by decide)
    generalize chunkLow s.1 n = A at *
    have hr := r.2
    have hqA := hq ⟨A, by omega⟩
    have hqB := hq ⟨A + s.1, by omega⟩
    have hqr := hq ⟨r.val / 2048, by omega⟩
    simp only at hqr
    have pA : pairOf s.1 A = n := hqA.mpr (Or.inl rfl)
    have pB : pairOf s.1 (A + s.1) = n := hqB.mpr (Or.inr rfl)
    have hlow : ∀ i : Fin 2048, lowRows arg4 (BitVec.ofNat 32 (2048 * s.1)) h h1 ⟨n, hlt⟩ (arg4.view.writes (Elt Ideal) f
        (pb_k0_t2 (F := Ideal) 𝒱₀ c none arg0 harg0 arg1 harg1 arg2 harg2 arg3 harg3 arg4 harg4 wk
        (BitVec.ofNat 32 (2048 * s.1)) h h1 (quot (BitVec.ofNat 32 (2048 * s.1))) f n)) (ix2 i j)
        = col (arg4.view.read (Elt Ideal) f) j (2048 * A + i) := fun i => by
      have hi := i.2
      rw [lowRows, ld_rows _ _ _ (2048 * A) ho2 i j (by omega), ih (by omega), if_neg (by
        show ¬ pairOf s.1 ((2048 * A + i.val) / 2048) < n
        rw [show (2048 * A + i.val) / 2048 = A by omega, pA]; omega)]
      exact (col_of_lt _ _ _).symm
    have hhigh : ∀ i : Fin 2048, highRows arg4 (BitVec.ofNat 32 (2048 * s.1)) h h1 ⟨n, hlt⟩ (arg4.view.writes (Elt Ideal) f
        (pb_k0_t2 (F := Ideal) 𝒱₀ c none arg0 harg0 arg1 harg1 arg2 harg2 arg3 harg3 arg4 harg4 wk
        (BitVec.ofNat 32 (2048 * s.1)) h h1 (quot (BitVec.ofNat 32 (2048 * s.1))) f n)) (ix2 i j)
        = col (arg4.view.read (Elt Ideal) f) j (2048 * (A + s.1) + i) := fun i => by
      have hi := i.2
      rw [highRows, ld_rows _ _ _ (2048 * (A + s.1)) ho3 i j (by omega), ih (by omega), if_neg (by
        show ¬ pairOf s.1 ((2048 * (A + s.1) + i.val) / 2048) < n
        rw [show (2048 * (A + s.1) + i.val) / 2048 = A + s.1 by omega, pB]; omega)]
      exact (col_of_lt _ _ _).symm
    by_cases hrB : 2048 * (A + s.1) ≤ r.val ∧ r.val < 2048 * (A + s.1) + 2048
    · have e : r.val / 2048 = A + s.1 := by omega
      rw [View.read_writes_cons_rows_of_mem (d := ![16384, 100]) arg4.view _ (o := 2048 * (A + s.1)) (k0_off3_inb _ h ⟨n, hlt⟩ h1) _ _ (ix2 r j)
        (ix2 (⟨r.val - 2048 * (A + s.1), by omega⟩ : Fin 2048) j) ho3
        (by show r.val = 2048 * (A + s.1) + (r.val - 2048 * (A + s.1)); omega) rfl, pay5_apply wk w a ha, hlow, hhigh, if_pos (show pairOf s.1 (r.val / 2048) < n + 1 by rw [e, pB]; omega)]
      obtain ⟨i, hi, hri⟩ : ∃ i, i < 2048 ∧ r.val = 2048 * (A + s.1) + i := ⟨r.val - 2048 * (A + s.1), by omega, by omega⟩
      have n1 : ¬ Up (2048 * s.1) (2048 * (A + s.1) + i) := fun h => hB ((up_chunk _ _ _ hi).mp h)
      have n2 : Up (2048 * s.2) (2048 * (A + s.1) + i) ↔ Up wk.toNat w.toNat := by rw [up_chunk _ _ _ hi, hAB, hupw]
      have n3 : 2048 * (A + s.1) + i - 2048 * s.1 = 2048 * A + i := by omega
      simp only [hri, stg, mate, n1, if_false, n2, n3, false_iff, Nat.add_sub_cancel_left]
      by_cases hu : Up wk.toNat w.toNat
      · simp only [hu, if_true, not_true, if_false]; exact sup_comm _ _
      · simp only [hu, if_false, not_false_eq_true, if_true]; exact inf_comm _ _
    · rw [View.read_writes_cons_rows_of_not_mem (d := ![16384, 100]) arg4.view _ (o := 2048 * (A + s.1)) (W := 2048) (k0_off3_inb _ h ⟨n, hlt⟩ h1) _ _
        (ix2 r j) ho3 rfl (by show r.val < 2048 * (A + s.1) ∨ 2048 * (A + s.1) + 2048 ≤ r.val; omega)]
      by_cases hrA : 2048 * A ≤ r.val ∧ r.val < 2048 * A + 2048
      · have e : r.val / 2048 = A := by omega
        rw [View.read_writes_cons_rows_of_mem (d := ![16384, 100]) arg4.view _ (o := 2048 * A) (k0_off2_inb _ h ⟨n, hlt⟩ h1) _ _ (ix2 r j)
          (ix2 (⟨r.val - 2048 * A, by omega⟩ : Fin 2048) j) ho2
          (by show r.val = 2048 * A + (r.val - 2048 * A); omega) rfl, pay4_apply wk w a ha, hlow, hhigh, if_pos (show pairOf s.1 (r.val / 2048) < n + 1 by rw [e, pA]; omega)]
        obtain ⟨i, hi, hri⟩ : ∃ i, i < 2048 ∧ r.val = 2048 * A + i := ⟨r.val - 2048 * A, by omega, by omega⟩
        have n1 : Up (2048 * s.1) (2048 * A + i) := (up_chunk _ _ _ hi).mpr hA
        have n2 : Up (2048 * s.2) (2048 * A + i) ↔ Up wk.toNat w.toNat := by rw [up_chunk _ _ _ hi, hupw]
        have n3 : 2048 * A + i + 2048 * s.1 = 2048 * (A + s.1) + i := by omega
        simp only [hri, stg, mate, n1, if_true, n2, n3, true_iff, Nat.add_sub_cancel_left]
      · rw [View.read_writes_cons_rows_of_not_mem (d := ![16384, 100]) arg4.view _ (o := 2048 * A) (W := 2048) (k0_off2_inb _ h ⟨n, hlt⟩ h1) _ _
          (ix2 r j) ho2 rfl (by show r.val < 2048 * A ∨ 2048 * A + 2048 ≤ r.val; omega), ih (by omega)]
        have : pairOf s.1 (r.val / 2048) ≠ n := fun h => by
          rcases hqr.mp h with h | h <;> omega
        by_cases h2 : pairOf s.1 (r.val / 2048) < n
        · rw [if_pos h2, if_pos (by omega)]
        · rw [if_neg h2, if_neg (by omega)]

end Trip

end Cert.Proof.KernelIdeal
-- ==== Proof.Sorted.lean ====
/-
  The sort call's scratch when its stages have run: every column holds the column of the argument run through the 105 stages of
  the bitonic network on 16384 values.
-/
module

public import proofs.«01_k».proof.Proof.Run
public import proofs.«01_k».proof.Proof.Stage

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Bitonic

/-- The two tables list the network's stages in order. -/
theorem tables_eq : (List.ofFn fun s : Fin 105 => ((lit0 s).toNat, (lit1 s).toNat)) = stages 14 := by decide +kernel

/-- Every stage of the tables has its pairs inside the chunks, or across them. -/
theorem tables_cases : ∀ s : Fin 105,
    (k0_cond1 (lit1 s) ≠ 1#1 ∧ (∃ b : Fin 11, (lit1 s).toNat = 2 ^ b.val) ∧ ∃ a : Fin 15, (lit0 s).toNat = 2 ^ a.val)
    ∨ (k0_cond1 (lit1 s) = 1#1 ∧ ∃ e ∈ crossing, lit1 s = BitVec.ofNat 32 (2048 * e.1) ∧ (lit1 s).toNat = 2048 * e.1
        ∧ (lit0 s).toNat = 2048 * e.2 ∧ ∃ a : Fin 15, (lit0 s).toNat = 2 ^ a.val) := by decide +kernel

section Loop

variable (c : Dev nD) (arg0 : Memref sig .tc .smem S105 .i32) (harg0 : arg0.IsWhole) (arg1 : Memref sig .tc .smem S105 .i32) (harg1 : arg1.IsWhole)
  (arg2 : Memref sig .tc .vmem S16384x100 .f32) (harg2 : arg2.IsWhole) (arg3 : Memref sig .tc .vmem S16x100 .f32) (harg3 : arg3.IsWhole)
  (arg4 : Memref sig .tc .vmem S16384x100 .f32) (harg4 : arg4.IsWhole)

/-- One stage of the tables on a column of the scratch. -/
theorem stage_col (s : Fin 105) (G : BufTy.Contents (Elt Ideal) arg4.view.ty) (r : Fin 16384) (j : Fin 100) :
    arg4.view.read (Elt Ideal) (stage (F := Ideal) c arg0 harg0 arg1 harg1 arg2 harg2 arg3 harg3 arg4 harg4 (lit0 s) (lit1 s) G) (ix2 r j)
      = stg (lit0 s).toNat (lit1 s).toNat (col (arg4.view.read (Elt Ideal) G) j) r := by
  have hr := r.2
  have hok := lit_ok s
  rcases tables_cases s with ⟨hc, ⟨b, hb⟩, a, ha⟩ | ⟨hc, e, he, hd, hd', hk, a, ha⟩
  · unfold stage
    rw [dif_pos hok, dif_neg hc, trips3, read3 c arg0 harg0 arg1 harg1 arg2 harg2 arg3 harg3 arg4 harg4 _ _ a b ha hb b.2 G j 8 le_rfl r, if_pos (by omega)]
  · rw [hd', hk]
    rw [hd] at hc hok ⊢
    unfold stage
    rw [dif_pos hok, dif_pos hc, trips2, read2 c arg0 harg0 arg1 harg1 arg2 harg2 arg3 harg3 arg4 harg4 e he _ a ha hk hok hc G j 4 le_rfl r,
      if_pos (pairOf_lt e he ⟨r.val / 2048, by omega⟩)]

theorem stages_pow : ∀ p ∈ stages 14, 0 < p.2 ∧ 16384 = 2 * p.2 * (8192 / p.2) := by decide +kernel

theorem stg_congr {k d : ℕ} (hd : 0 < d) (hN : 16384 = 2 * d * (8192 / d)) {x y : ℕ → EReal} (h : ∀ n < 16384, x n = y n) (n : ℕ) (hn : n < 16384) :
    stg k d x n = stg k d y n := by
  unfold stg
  rw [h n hn, h _ (mate_lt hd 16384 (8192 / d) n hN hn)]

theorem trips1 : k0_t1_loop.trips = 105 := by decide

/-- The scratch before stage `n`, on a column: the first `n` stages of the network run on the column it began with. -/
theorem scrAt_col (X0 : BufTy.Contents (Elt Ideal) arg0.view.ty) (X1 : BufTy.Contents (Elt Ideal) arg1.view.ty)
    (h0 : ∀ k, word (F := Ideal) arg0 X0 k = lit0 ⟨k.val, trips1 ▸ k.2⟩) (h1 : ∀ k, word (F := Ideal) arg1 X1 k = lit1 ⟨k.val, trips1 ▸ k.2⟩)
    (G : BufTy.Contents (Elt Ideal) arg4.view.ty) (j : Fin 100) (n : ℕ) (hn : n ≤ 105) (r : Fin 16384) :
    arg4.view.read (Elt Ideal) (scrAt (F := Ideal) c arg0 harg0 arg1 harg1 arg2 harg2 arg3 harg3 arg4 harg4 X0 X1 G n) (ix2 r j)
      = run ((stages 14).take n) (col (arg4.view.read (Elt Ideal) G) j) r := by
  induction n generalizing r with
  | zero => exact (col_of_lt _ _ _).symm
  | succ n ih =>
    have hlt : n < k0_t1_loop.trips := by rw [trips1]; omega
    have hs := scrAt_succ (F := Ideal) c arg0 harg0 arg1 harg1 arg2 harg2 arg3 harg3 arg4 harg4 X0 X1 G ⟨n, hlt⟩
    simp only at hs
    have hlen : n < (stages 14).length := by rw [← tables_eq, List.length_ofFn]; omega
    have hget : (stages 14)[n] = ((lit0 ⟨n, by omega⟩).toNat, (lit1 ⟨n, by omega⟩).toNat) := by
      simp only [← tables_eq, List.getElem_ofFn]
    have hmem := stages_pow _ (List.getElem_mem hlen)
    rw [hget] at hmem
    rw [hs, h0, h1, stage_col, List.take_succ_eq_append_getElem hlen, hget]
    unfold run
    rw [List.foldl_append]
    exact stg_congr hmem.1 hmem.2 (fun i hi => (dif_pos hi).trans (ih (by omega) ⟨i, hi⟩)) r r.2

end Loop

variable (m : (ℓ : Loc nD τ sig) → Buf (Elt Ideal) ℓ) (ρ : Dev nD → PrngReg)

theorem first_pos : 0 < S1.numel := numel1_S1 ▸ Nat.one_pos

theorem place1 : ∀ k : Fin k0_t1_loop.trips, (S105.rowMajor ((Rect.unit (s := S105) (k0_off1 k) S1.size (k0_off1_inb k)).emb
    (Shape.Idx.first first_pos))).val = k.val := by decide +kernel

/-- The scratch as the stages find it is the argument. -/
theorem scr0_col (arg4 : Memref sig .tc .vmem S16384x100 .f32) (x : Vec Ideal S16384x100 .f32) (r : Fin 16384) (j : Fin 100) :
    arg4.view.read (Elt Ideal) (scr0 arg4 x) (ix2 r j) = x (ix2 r j) := by
  unfold scr0
  have e : allRect.emb (ix2 r j) = ix2 r j := by
    funext a
    refine Fin.ext ?_
    rw [Rect.emb_apply]
    fin_cases a
    · show 0 + 1 * r.val = r.val; omega
    · show 0 + 1 * j.val = j.val; omega
  conv_lhs => rw [← e]
  rw [View.read_writes_cons_emb]
  pointwise [k0_pay3]
  try rfl

/-- The sorted array: column by column the network's result. -/
theorem sorted_col (c : Dev nD) (t : Fin cfg0.N) (r : Fin 16384) (j : Fin 100) :
    sorted0 (V1 m ρ) c t (ix2 r j) = run (stages 14) (col (blk0 (V1 m ρ) c 2 t) j) r := by
  unfold sorted0 scrOut
  rw [trips1, scrAt_col _ _ _ _ _ _ _ _ _ _ _ _ _ ?_ ?_ _ j 105 le_rfl r]
  · rw [List.take_of_length_le (by rw [← tables_eq, List.length_ofFn])]
    generalize stages 14 = l
    refine congrFun (congrArg (run l) (funext fun n => ?_)) r.val
    unfold col
    by_cases h : n < 16384
    · rw [dif_pos h, dif_pos h]; exact scr0_col _ _ _ _
    · rw [dif_neg h, dif_neg h]
  · intro k
    rw [word_eq, blk0_ks]
    exact congrArg (fun i => lit0 i) (Fin.ext (place1 k))
  · intro k
    rw [word_eq, blk0_ds]
    exact congrArg (fun i => lit1 i) (Fin.ext (place1 k))

end Cert.Proof.KernelIdeal
-- ==== Proof.Bins.lean ====
/-
  The sixteen rows of bins the sort call stores, as one formula of a column of its sorted array: between the rows below and above
  the place `16383 t / 15`, by the fraction left over. On an ascending column they ascend.
-/
module

public import proofs.«01_k».proof.Proof.SortRun
public import Idealize.ShloMosaic.Lib.Pointwise
public import Idealize.ShloMosaic.Lib.Pipeline.CanonAppend
public import Mathlib.Data.EReal.Operations
public import Mathlib.Tactic.IntervalCases

@[expose] public section

set_option maxRecDepth 16384

noncomputable section

namespace Cert.Proof

/-- The `t`-th of the sixteen quantiles of a sorted sequence of 16384: the weighted mean of the entries at the floor and at the
    ceiling of `16383 t / 15`. -/
def bin (g : ℕ → EReal) (t : ℕ) : EReal :=
  g (5461 * t / 5) * ((1 - (t % 5 : ℕ) / 5 : ℝ) : EReal) + g ((5461 * t + 4) / 5) * (((t % 5 : ℕ) / 5 : ℝ) : EReal)

/-- A weighted mean of two ordered entries lies between them. -/
theorem mean_bounds {a b : EReal} (h : a ≤ b) {p : ℝ} (h0 : 0 ≤ p) (h1 : p ≤ 1) :
    a ≤ a * ((1 - p : ℝ) : EReal) + b * ((p : ℝ) : EReal) ∧ a * ((1 - p : ℝ) : EReal) + b * ((p : ℝ) : EReal) ≤ b := by
  have hp : (0 : EReal) ≤ ((p : ℝ) : EReal) := EReal.coe_nonneg.mpr h0
  have hq : (0 : EReal) ≤ ((1 - p : ℝ) : EReal) := EReal.coe_nonneg.mpr (by linarith)
  have hs : ((1 - p : ℝ) : EReal) + ((p : ℝ) : EReal) = 1 := by
    rw [← EReal.coe_add]; norm_num
  have split (c : EReal) : c = c * ((1 - p : ℝ) : EReal) + c * ((p : ℝ) : EReal) := by
    rw [← EReal.left_distrib_of_nonneg hq hp, hs, mul_one]
  constructor
  · exact (split a).le.trans (add_le_add le_rfl (mul_le_mul_of_nonneg_right h hp))
  · exact (add_le_add (mul_le_mul_of_nonneg_right h hq) le_rfl).trans (split b).ge

/-- The quantiles of an ascending sequence ascend. -/
theorem bin_le {g : ℕ → EReal} (hg : ∀ i j, i ≤ j → j < 16384 → g i ≤ g j) (t : ℕ) (ht : t < 15) : bin g t ≤ bin g (t + 1) := by
  have hfrac (t : ℕ) : (0 : ℝ) ≤ ((t % 5 : ℕ) / 5 : ℝ) ∧ ((t % 5 : ℕ) / 5 : ℝ) ≤ 1 := by
    have : t % 5 < 5 := Nat.mod_lt _ (by decide)
    have h : ((t % 5 : ℕ) : ℝ) ≤ 5 := by exact_mod_cast this.le
    exact ⟨by positivity, by rw [div_le_one (by norm_num)]; exact h⟩
  exact ((mean_bounds (hg _ _ (by omega) (by omega)) (hfrac t).1 (hfrac t).2).2.trans (hg _ _ (by omega) (by omega))).trans
    (mean_bounds (hg _ _ (by omega) (by omega)) (hfrac (t + 1)).1 (hfrac (t + 1)).2).1

namespace KernelIdeal

open Cert.KernelIdeal Cert.KernelIdeal.Gen
open Idealize.ShloMosaic Idealize.ShloMosaic.TcCoe Idealize.ShloMosaic.Tactic
open Idealize.SL.Sem

theorem w1_eq : Named.named (F := Ideal) κ "w1" (φ := .f32) 0x3E4CCCCD#32 = ((1 / 5 : ℝ) : EReal) :=
  IdealRules.named_const.ideal_named_scalar _ _ _ _ rfl
theorem w2_eq : Named.named (F := Ideal) κ "w2" (φ := .f32) 0x3ECCCCCD#32 = ((2 / 5 : ℝ) : EReal) :=
  IdealRules.named_const.ideal_named_scalar _ _ _ _ rfl
theorem w3_eq : Named.named (F := Ideal) κ "w3" (φ := .f32) 0x3F19999A#32 = ((3 / 5 : ℝ) : EReal) :=
  IdealRules.named_const.ideal_named_scalar _ _ _ _ rfl
theorem w4_eq : Named.named (F := Ideal) κ "w4" (φ := .f32) 0x3F4CCCCD#32 = ((4 / 5 : ℝ) : EReal) :=
  IdealRules.named_const.ideal_named_scalar _ _ _ _ rfl

/-- The stored mean of two rows, one lemma for the four weights. -/
theorem mix_apply (a b : Vec Ideal S1x100 .f32) (x : S1x100.Idx) :
    k0_pay7 a b x = a x * ((1 - (1 : ℕ) / 5 : ℝ) : EReal) + b x * (((1 : ℕ) / 5 : ℝ) : EReal)
    ∧ k0_pay8 a b x = a x * ((1 - (2 : ℕ) / 5 : ℝ) : EReal) + b x * (((2 : ℕ) / 5 : ℝ) : EReal)
    ∧ k0_pay9 a b x = a x * ((1 - (3 : ℕ) / 5 : ℝ) : EReal) + b x * (((3 : ℕ) / 5 : ℝ) : EReal)
    ∧ k0_pay10 a b x = a x * ((1 - (4 : ℕ) / 5 : ℝ) : EReal) + b x * (((4 : ℕ) / 5 : ℝ) : EReal) := by
  refine ⟨?_, ?_, ?_, ?_⟩
  · show a x * (Named.named (F := Ideal) κ "w4" (φ := .f32) 0x3F4CCCCD#32 : EReal) + b x * (Named.named (F := Ideal) κ "w1" (φ := .f32) 0x3E4CCCCD#32 : EReal) = _
    rw [w4_eq, w1_eq]; norm_num
  · show a x * (Named.named (F := Ideal) κ "w3" (φ := .f32) 0x3F19999A#32 : EReal) + b x * (Named.named (F := Ideal) κ "w2" (φ := .f32) 0x3ECCCCCD#32 : EReal) = _
    rw [w3_eq, w2_eq]; norm_num
  · show a x * (Named.named (F := Ideal) κ "w2" (φ := .f32) 0x3ECCCCCD#32 : EReal) + b x * (Named.named (F := Ideal) κ "w3" (φ := .f32) 0x3F19999A#32 : EReal) = _
    rw [w3_eq, w2_eq]; norm_num
  · show a x * (Named.named (F := Ideal) κ "w1" (φ := .f32) 0x3E4CCCCD#32 : EReal) + b x * (Named.named (F := Ideal) κ "w4" (φ := .f32) 0x3F4CCCCD#32 : EReal) = _
    rw [w4_eq, w1_eq]; norm_num

/-- A row stored as it is, is the mean of weight zero. -/
theorem keep_apply (a : EReal) : a = a * ((1 - (0 : ℕ) / 5 : ℝ) : EReal) + a * (((0 : ℕ) / 5 : ℝ) : EReal) := by
  norm_num

theorem row_apply (S : Vec Ideal S16384x100 .f32) (l : ℕ) (h : l < 16384) (x : S1x100.Idx) :
    row S l h x = S (ix2 ⟨l, h⟩ (x 1)) := by
  refine congrArg S (funext fun a => ?_)
  have h0 : (x 0 : ℕ) = 0 := Nat.lt_one_iff.mp (x 0).2
  refine Fin.cases ?_ (fun a => Fin.cases ?_ (fun a => a.elim0) a) a <;> apply Fin.ext
  · show l + 1 * (x 0 : ℕ) = l
    omega
  · show 0 + 1 * (x 1 : ℕ) = (x 1 : ℕ)
    omega

theorem binRect_emb (t : ℕ) (h : t < 16) (x : S1x100.Idx) : (binRect t h).emb x = ix2 (⟨t, h⟩ : Fin 16) (x 1) := by
  funext a
  have h0 : (x 0 : ℕ) = 0 := Nat.lt_one_iff.mp (x 0).2
  refine Fin.cases ?_ (fun a => Fin.cases ?_ (fun a => a.elim0) a) a <;> apply Fin.ext
  · show t + 1 * (x 0 : ℕ) = t
    omega
  · show 0 + 1 * (x 1 : ℕ) = (x 1 : ℕ)
    omega

/-- A stored row that is the mean of two rows of the sorted array, by the fifths left over, is that row of quantiles. -/
theorem piece_mean (S : Vec Ideal S16384x100 .f32) (g : Fin 100 → ℕ → EReal) (hg : ∀ (r : Fin 16384) j, S (ix2 r j) = g j r)
    (t p l l' : ℕ) (ht : t < 16) (h : l < 16384) (h' : l' < 16384) (v : Vec Ideal S1x100 .f32)
    (hl : l = 5461 * t / 5 ∧ l' = (5461 * t + 4) / 5 ∧ p = t % 5)
    (hv : ∀ x, v x = row S l h x * ((1 - (p : ℕ) / 5 : ℝ) : EReal) + row S l' h' x * (((p : ℕ) / 5 : ℝ) : EReal)) (x : S1x100.Idx) :
    v x = bin (g ((binRect t ht).emb x 1)) ((binRect t ht).emb x 0) := by
  obtain ⟨rfl, rfl, rfl⟩ := hl
  rw [hv, row_apply, row_apply, binRect_emb]
  exact congrArg₂ (fun a b : EReal => a * ((1 - (t % 5 : ℕ) / 5 : ℝ) : EReal) + b * (((t % 5 : ℕ) / 5 : ℝ) : EReal))
    (hg ⟨_, h⟩ (x 1)) (hg ⟨_, h'⟩ (x 1))

/-- Entry `(t, j)` of the stored bins is the `t`-th quantile of column `j` of the sorted array. -/
theorem binsOut_apply (S : Vec Ideal S16384x100 .f32) (g : Fin 100 → ℕ → EReal) (hg : ∀ (r : Fin 16384) j, S (ix2 r j) = g j r)
    (t : Fin 16) (j : Fin 100) : binsOut S (ix2 t j) = bin (g j) t := by
  have keep (t l : ℕ) (ht : t < 16) (h : l < 16384) (hl : l = 5461 * t / 5 ∧ l = (5461 * t + 4) / 5 ∧ 0 = t % 5) :=
    piece_mean S g hg t 0 l l ht h h (row S l h) hl fun x => keep_apply _
  have mean (p : ℕ) (t l l' : ℕ) (ht : t < 16) (h : l < 16384) (h' : l' < 16384)
      (hl : l = 5461 * t / 5 ∧ l' = (5461 * t + 4) / 5 ∧ p = t % 5) (v : Vec Ideal S1x100 .f32) :=
    piece_mean S g hg t p l l' ht h h' v hl
  refine View.canon_apply_of_pieces (fun y => bin (g (y 1)) (y 0)) (binPieces S) ?_ _ (cover_bins S _)
  simp only [List.forall_mem_cons]
  exact ⟨keep 15 16383 _ _ (by decide), mean 4 14 15290 15291 _ _ _ (by decide) _ fun x => (mix_apply _ _ x).2.2.2,
    mean 3 13 14198 14199 _ _ _ (by decide) _ fun x => (mix_apply _ _ x).2.2.1,
    mean 2 12 13106 13107 _ _ _ (by decide) _ fun x => (mix_apply _ _ x).2.1,
    mean 1 11 12014 12015 _ _ _ (by decide) _ fun x => (mix_apply _ _ x).1,
    keep 10 10922 _ _ (by decide), mean 4 9 9829 9830 _ _ _ (by decide) _ fun x => (mix_apply _ _ x).2.2.2,
    mean 3 8 8737 8738 _ _ _ (by decide) _ fun x => (mix_apply _ _ x).2.2.1,
    mean 2 7 7645 7646 _ _ _ (by decide) _ fun x => (mix_apply _ _ x).2.1,
    mean 1 6 6553 6554 _ _ _ (by decide) _ fun x => (mix_apply _ _ x).1,
    keep 5 5461 _ _ (by decide), mean 4 4 4368 4369 _ _ _ (by decide) _ fun x => (mix_apply _ _ x).2.2.2,
    mean 3 3 3276 3277 _ _ _ (by decide) _ fun x => (mix_apply _ _ x).2.2.1,
    mean 2 2 2184 2185 _ _ _ (by decide) _ fun x => (mix_apply _ _ x).2.1,
    mean 1 1 1092 1093 _ _ _ (by decide) _ fun x => (mix_apply _ _ x).1,
    keep 0 0 _ _ (by decide), by simp⟩

end KernelIdeal
end Cert.Proof
-- ==== Proof.Encode.lean ====
/-
  The encode call's payload, read at an entry: the one-hot product picks the feature's value, and the selects place it against the
  two bins the entry lies between.
-/
module

public import proofs.«01_k».proof.Proof.SortRun
public import Idealize.ShloMosaic.Lib.Pointwise
public import Mathlib.Data.EReal.Operations

@[expose] public section

set_option maxRecDepth 16384

noncomputable section

namespace Cert.Proof

open Idealize.ShloMosaic

/-- The encoding of a value between two bins: nothing below the first (or in the column before the first bin), all above the
    second unless it is the last, and the ramp between. -/
def enc (v p q : EReal) (t : ℕ) : EReal :=
  if t = 0 then 0 else if v < p then 0 else if q ≤ v then (if t = 15 then 0 else 1)
  else (v - p) * Ideal.div 1 (q - p + Ideal.ofBits .f32 0x3089705F#32)

namespace KernelIdeal

open Cert.KernelIdeal Cert.KernelIdeal.Gen
open Idealize.ShloMosaic.TcCoe Idealize.ShloMosaic.Tactic
open Idealize.SL.Sem

/-- Two small words are equal exactly when their numbers are. -/
theorem select_eq {α : Type} (n k : ℕ) (hn : n < 2 ^ 32) (hk : k < 2 ^ 32) (a b : α) :
    Scalar.select (IntOp.cmpi .eq (BitVec.ofNat 32 n) (BitVec.ofNat 32 k)) a b = if n = k then a else b := by
  have h : BitVec.ofNat 32 n = BitVec.ofNat 32 k ↔ n = k := by
    rw [← BitVec.toNat_inj, BitVec.toNat_ofNat, BitVec.toNat_ofNat, Nat.mod_eq_of_lt hn, Nat.mod_eq_of_lt hk]
  by_cases e : n = k
  · subst e; simp [Scalar.select, IntOp.cmpi]
  · have h' : (BitVec.ofNat 32 n == BitVec.ofNat 32 k) = false := beq_false_of_ne (mt h.mp e)
    simp [Scalar.select, IntOp.cmpi, h', e]

/-- The low four bits of a small word are its remainder by sixteen. -/
theorem low4 (n : ℕ) (hn : n < 2 ^ 32) : IntOp.andi (BitVec.ofNat 32 n) 15#32 = BitVec.ofNat 32 (n % 16) := by
  rw [← BitVec.toNat_inj]
  show (BitVec.ofNat 32 n &&& 15#32).toNat = _
  rw [BitVec.toNat_and, BitVec.toNat_ofNat, BitVec.toNat_ofNat, Nat.mod_eq_of_lt hn]
  exact (Nat.and_two_pow_sub_one_eq_mod n 4).trans (Nat.mod_eq_of_lt (by omega)).symm

/-- An entry of the encode call's block: when column `o` of the one-hot picks feature `f`, it is the encoding of that feature's
    value between the two bins of the column. -/
theorem pay1_apply (x : Vec Ideal S512x100 .f32) (s : Vec Ideal S100x1600 .f32) (p q : Vec Ideal S1x1600 .f32) (i : Fin 512) (o : Fin 1600)
    (f : Fin 100) (hs : ∀ k, s (ix2 k o) = if k = f then 1 else 0) :
    k1_pay1 x s p q (ix2 i o) = enc (x (ix2 i f)) (p (ix2 0 o)) (q (ix2 0 o)) (o % 16) := by
  pointwise [k1_pay1]
  have hsum : ∑ k, x (ix2 i k) * s (ix2 k o) = x (ix2 i f) := by
    simp only [hs, mul_ite, mul_one, mul_zero, Finset.sum_ite_eq', Finset.mem_univ, if_true]
  have ho := o.2
  rw [hsum, low4 _ (by omega), select_eq _ 0 (by omega) (by decide), select_eq _ 15 (by omega) (by decide)]
  rfl

end KernelIdeal
end Cert.Proof
-- ==== Proof.Host.lean ====
/-
  The host operations between the two calls, read at an entry: column `16 f + t` of the two rows of bins is bin `t`, and the bin
  before it, of feature `f`; and of the one-hot, feature `f` alone.
-/
module

public import proofs.«01_k».proof.Proof.Run
public import Idealize.ShloMosaic.Lib.Claim
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

/-- The column number's feature, as the host computes it: the floor of its quotient by sixteen. -/
def feature : IVec S1x1600 32 :=
  let i : IVec S1x1600 32 := broadcastInDim S1x1600 ![1] bcast_S1600_S1x1600_1 (iotaInDim S1600 32 0)
  let d : IVec S1x1600 32 := broadcastInDim S1x1600 ![] bcast_S_S1x1600 (constantI S_ 32 16#32)
  select
    (andi (cmpi .ne (signi i) (broadcastInDim S1x1600 ![] bcast_S_S1x1600 (signi (constantI S_ 32 16#32))))
      (cmpi .ne (Host.remsi i d) (broadcastInDim S1x1600 ![] bcast_S_S1x1600 (constantI S_ 32 0#32))))
    (subi (Host.divsi i d) (broadcastInDim S1x1600 ![] bcast_S_S1x1600 (constantI S_ 32 1#32))) (Host.divsi i d)

/-- The floor of the quotient by sixteen, as it is computed on words from the quotient toward zero. -/
theorem floor16 : ∀ o : Fin 1600,
    Scalar.select
      (IntOp.andi
        (IntOp.cmpi .ne (if BitVec.ofNat 32 o = 0 then (0 : BitVec 32) else if (BitVec.ofNat 32 o).msb = true then -1 else 1)
          (if 16#32 = 0 then 0 else if (16#32).msb = true then -1 else 1))
        (IntOp.cmpi .ne (IntOp.remsi .host (BitVec.ofNat 32 o) 16#32) 0#32))
      (IntOp.subi (IntOp.divsi .host (BitVec.ofNat 32 o) 16#32) 1#32)
      (IntOp.divsi .host (BitVec.ofNat 32 o) 16#32) = BitVec.ofNat 32 (o / 16) := by
  decide +kernel

theorem feature_apply (o : Fin 1600) : feature (ix2 0 o) = BitVec.ofNat 32 (o / 16) := by
  unfold feature
  pointwise
  exact floor16 o

/-- Entry `(o / 16, o % 16)` of a feature-by-bin table is entry `o` of its flattening. -/
theorem flat_eq (o : Fin 1600) :
    (S100x16.rowMajor (ix2 (⟨o / 16, by omega⟩ : Fin 100) (⟨o % 16, by omega⟩ : Fin 16)) : ℕ) = S1x1600.rowMajor (ix2 (0 : Fin 1) o) := by
  refine (Shape.rowMajor_val_two _).trans (Eq.trans ?_ (Shape.rowMajor_val_two _).symm)
  show (o : ℕ) / 16 * 16 + o % 16 = 0 * 1600 + o
  omega

section
variable (W : Valuation τ sig (Elt Ideal))

/-- The bins as the sort call leaves them. -/
abbrev binsIn : Vec Ideal S16x100 .f32 := W (Proc.devRef .tc main_call0_v0)

theorem upper_eq (o : Fin 1600) :
    (StableHlo.after hostOps1 W (Proc.devRef .tc main_call0_v2) : Vec Ideal S1x1600 .f32) (ix2 0 o)
      = binsIn W (ix2 ⟨o % 16, by omega⟩ ⟨o / 16, by omega⟩) := by
  rw [show (StableHlo.after hostOps1 W (Proc.devRef .tc main_call0_v2) : Vec Ideal S1x1600 .f32)
      = shapeCast S1x1600 (transpose S100x16 [1, 0] (binsIn W) transposes_S16x100_S100x16_1_0) shapeCasts_S100x16_S1x1600 from by
    after_results; rfl]
  rw [shapeCast_apply _ _ _ (ix2 ⟨o / 16, by omega⟩ ⟨o % 16, by omega⟩ : S100x16.Idx) (flat_eq o)]
  pointwise

theorem lower_eq (o : Fin 1600) :
    (StableHlo.after hostOps1 W (Proc.devRef .tc main_call0_v4) : Vec Ideal S1x1600 .f32) (ix2 0 o)
      = binsIn W (ix2 ⟨(o + 15) % 16, by omega⟩ ⟨o / 16, by omega⟩) := by
  rw [show (StableHlo.after hostOps1 W (Proc.devRef .tc main_call0_v4) : Vec Ideal S1x1600 .f32)
      = shapeCast S1x1600 (concatenate S100x16 1
          [⟨S100x1, extractStridedSlice S100x1 ![0, 15] (transpose S100x16 [1, 0] (binsIn W) transposes_S16x100_S100x16_1_0) slices_S100x16_S100x1_0_15⟩,
            ⟨S100x15, extractStridedSlice S100x15 ![0, 0] (transpose S100x16 [1, 0] (binsIn W) transposes_S16x100_S100x16_1_0) slices_S100x16_S100x15_0_0⟩]
          concatenates_S100x1_S100x15_S100x16_d1) shapeCasts_S100x16_S1x1600 from by
    after_results; rfl]
  rw [shapeCast_apply _ _ _ (ix2 ⟨o / 16, by omega⟩ ⟨o % 16, by omega⟩ : S100x16.Idx) (flat_eq o)]
  pointwise
  have ho := o.2
  by_cases h : (o : ℕ) % 16 < 1
  · rw [dif_pos h]
    exact congrArg (fun t => binsIn W (ix2 t _)) (Fin.ext (by show 15 + (o : ℕ) % 16 = (o + 15) % 16; omega))
  · rw [dif_neg h]
    exact congrArg (fun t => binsIn W (ix2 t _)) (Fin.ext (by show (o : ℕ) % 16 - 1 = (o + 15) % 16; omega))

theorem hot_eq (k : Fin 100) (o : Fin 1600) :
    (StableHlo.after hostOps1 W (Proc.devRef .tc main_call0_v13) : Vec Ideal S100x1600 .f32) (ix2 k o)
      = (if k = (⟨o / 16, by omega⟩ : Fin 100) then 1 else 0 : EReal) := by
  rw [show (StableHlo.after hostOps1 W (Proc.devRef .tc main_call0_v13) : Vec Ideal S100x1600 .f32)
      = uitofp (F := Ideal) .f32 (cmpi .eq (broadcastInDim S100x1600 ![0, 1] bcast_S1x1600_S100x1600_0_1 feature)
          (broadcastInDim S100x1600 ![0, 1] bcast_S100x1_S100x1600_0_1
            (broadcastInDim S100x1 ![0] bcast_S100_S100x1_0 (iotaInDim S100 32 0)))) from by
    after_results; rfl]
  pointwise
  rw [feature_apply]
  have hk := k.2
  have ho := o.2
  have h : BitVec.ofNat 32 (o / 16) = BitVec.ofNat 32 k ↔ k = (⟨o / 16, by omega⟩ : Fin 100) := by
    rw [← BitVec.toNat_inj, BitVec.toNat_ofNat, BitVec.toNat_ofNat, Nat.mod_eq_of_lt (by omega), Nat.mod_eq_of_lt (by omega), Fin.ext_iff]
    exact eq_comm
  show (((BitVec.ofBool (BitVec.ofNat 32 (o / 16) == BitVec.ofNat 32 k)).toNat : ℝ) : EReal) = _
  by_cases e : k = (⟨o / 16, by omega⟩ : Fin 100)
  · rw [if_pos e, beq_iff_eq.mpr (h.mpr e)]; exact (by norm_num : (((1 : ℕ) : ℝ) : EReal) = 1)
  · rw [if_neg e, beq_false_of_ne (mt h.mp e)]; norm_num
end

end Cert.Proof.KernelIdeal
-- ==== Proof.Result.lean ====
/-
  What the kernel's run leaves in its result: entry `(b, o)` encodes the argument's value `(b, o / 16)` between two quantiles of
  that feature's sorted column.
-/
module

public import proofs.«01_k».proof.Proof.Sorted
public import proofs.«01_k».proof.Proof.Bins
public import proofs.«01_k».proof.Proof.Encode
public import proofs.«01_k».proof.Proof.Host
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Bitonic

variable (m : (ℓ : Loc nD τ sig) → Buf (Elt Ideal) ℓ) (ρ : Dev nD → PrngReg) (c : Dev nD)

/-- The argument, as launched. -/
abbrev arg : Vec Ideal S16384x100 .f32 := m ((c : Thread nD τ).loc main_arg0)

/-- Column `j` of the argument, sorted. -/
def sortedCol (v : Vec Ideal S16384x100 .f32) (j : Fin 100) : ℕ → EReal := run (stages 14) (col v j)

theorem at0_2 : ∀ t : Fin cfg0.N, win0_2.index t = ![0, 0] := by decide +kernel
theorem at0_3 : ∀ t : Fin cfg0.N, win0_3.index t = ![0, 0] := by decide +kernel
theorem at1_0 : ∀ t : Fin cfg1.N, win1_0.index t = ![t.val, 0] := by decide +kernel
theorem at1_1 : ∀ t : Fin cfg1.N, win1_1.index t = ![0, 0] := by decide +kernel
theorem at1_2 : ∀ t : Fin cfg1.N, win1_2.index t = ![0, 0] := by decide +kernel
theorem at1_3 : ∀ t : Fin cfg1.N, win1_3.index t = ![0, 0] := by decide +kernel
theorem at1_4 : ∀ t : Fin cfg1.N, win1_4.index t = ![t.val, 0] := by decide +kernel

/-- The sort call reads the whole argument. -/
theorem blk0_x (t : Fin cfg0.N) : blk0 (V1 m ρ) c 2 t = arg m c := by
  funext y
  unfold blk0
  blk_simp
  refine (congrFun (W1_x m ρ c) _).trans (congrArg (arg m c) ?_)
  blk_ext [at0_2 t]

/-- The quantiles of each sorted column. -/
def binArr (v : Vec Ideal S16384x100 .f32) : Vec Ideal S16x100 .f32 := fun i => bin (sortedCol v (i 1)) (i 0)

/-- The bins the sort call leaves: the quantiles of each sorted column. -/
theorem bins_eq (t : Fin 16) (j : Fin 100) : binsIn (W2 m ρ c) (ix2 t j) = bin (sortedCol (arg m c) j) t := by
  unfold binsIn
  have h : (dat0 (V1 m ρ) c).arrAt 3 cfg0.N = binArr (arg m c) := by
    refine (dat0 (V1 m ρ) c).arrAt_eq_of_covers 3 _ (by decide +kernel) fun t hf y => ?_
    blk_simp
    rw [after0_3]
    refine Eq.trans ?_ (congrArg (binArr (arg m c)) (show y = _ by blk_ext [at0_3 t]))
    refine (congrArg (binsOut (sorted0 (V1 m ρ) c t)) (show y = ix2 (y 0) (y 1) by blk_ext)).trans ?_
    refine (binsOut_apply _ (sortedCol (arg m c)) (fun r j => ?_) _ _).trans rfl
    rw [sorted_col, blk0_x]
    rfl
  exact congrFun ((W2_arr m ρ c 3).trans h) (ix2 t j)

/-- The encode call's blocks: its rows of the argument, and the whole of the other three operands. -/
theorem blk1_x (t : Fin cfg1.N) (i : Fin 512) (k : Fin 100) :
    (blk1 (V3 m ρ) c 0 t : Vec Ideal S512x100 .f32) (ix2 i k) = arg m c (ix2 ⟨t * 512 + i, by have := t.2; have : t.val < 32 := t.2; omega⟩ k) := by
  unfold blk1
  blk_simp
  refine (congrFun (W3_x m ρ c) _).trans (congrArg (arg m c) ?_)
  blk_ext [at1_0 t]
theorem blk1_hot (t : Fin cfg1.N) : blk1 (V3 m ρ) c 1 t = W3 m ρ c (Proc.devRef .tc main_call0_v13) := by
  funext y
  unfold blk1
  blk_simp
  refine congrArg (W3 m ρ c (Proc.devRef .tc main_call0_v13)) ?_
  blk_ext [at1_1 t]
theorem blk1_lower (t : Fin cfg1.N) : blk1 (V3 m ρ) c 2 t = W3 m ρ c (Proc.devRef .tc main_call0_v4) := by
  funext y
  unfold blk1
  blk_simp
  refine congrArg (W3 m ρ c (Proc.devRef .tc main_call0_v4)) ?_
  blk_ext [at1_2 t]
theorem blk1_upper (t : Fin cfg1.N) : blk1 (V3 m ρ) c 3 t = W3 m ρ c (Proc.devRef .tc main_call0_v2) := by
  funext y
  unfold blk1
  blk_simp
  refine congrArg (W3 m ρ c (Proc.devRef .tc main_call0_v2)) ?_
  blk_ext [at1_3 t]

/-- The encode call's one store is of its whole block, from its whole operands. -/
theorem encOut_eq (x : Vec Ideal S512x100 .f32) (s : Vec Ideal S100x1600 .f32) (p q : Vec Ideal S1x1600 .f32) :
    encOut x s p q = k1_pay1 x s p q := by
  have hz : (![0, 0] : Fin 2 → ℕ) = fun _ => 0 := by decide
  exact (View.canon_unit_zero hz inb_S512x1600_S512x1600_0_0 _).trans
    (congr (congr (congrArg₂ k1_pay1 (View.ld_unit_zero hz _ x) (View.ld_unit_zero hz _ s)) (View.ld_unit_zero hz _ p))
      (View.ld_unit_zero hz _ q))

/-- The encoding of every value of the argument between its feature's quantiles. -/
def encArr (v : Vec Ideal S16384x100 .f32) (b : Fin 16384) (o : Fin 1600) : EReal :=
  enc (v (ix2 b ⟨o / 16, by omega⟩)) (bin (sortedCol v ⟨o / 16, by omega⟩) ((o + 15) % 16))
    (bin (sortedCol v ⟨o / 16, by omega⟩) (o % 16)) (o % 16)

/-- What the run leaves in the result. -/
theorem result_apply (b : Fin 16384) (o : Fin 1600) :
    (W4 m ρ c (Proc.devRef .tc main_v0) : Vec Ideal S16384x1600 .f32) (ix2 b o) = encArr (arg m c) b o := by
  have h : (dat1 (V3 m ρ) c).arrAt 4 cfg1.N = fun i : S16384x1600.Idx => encArr (arg m c) (i 0) (i 1) := by
    refine (dat1 (V3 m ρ) c).arrAt_eq_of_covers 4 _ (by decide +kernel) fun t hf y => ?_
    have ht : t.val < 32 := t.2
    obtain ⟨i, o, rfl⟩ : ∃ (i : Fin 512) (o : Fin 1600), y = ix2 i o := ⟨y 0, y 1, by blk_ext⟩
    have hemb : ((cfg1.win 4).blk t).view.emb (ix2 i o) = (ix2 ⟨t * 512 + i, by omega⟩ o : S16384x1600.Idx) := by
      blk_ext [at1_4 t]
    rw [hemb]
    blk_simp
    rw [after1_4, encOut_eq]
    refine (pay1_apply _ _ _ _ i o ⟨o / 16, by omega⟩ fun k => ?_).trans ?_
    · rw [blk1_hot]; exact hot_eq _ k o
    · rw [blk1_x, blk1_lower, blk1_upper]
      exact congrArg₂ (fun p q : EReal => enc (arg m c (ix2 ⟨t * 512 + i, by omega⟩ ⟨o / 16, by omega⟩)) p q (o % 16))
        ((lower_eq (W2 m ρ c) o).trans (bins_eq m ρ c _ _)) ((upper_eq (W2 m ρ c) o).trans (bins_eq m ρ c _ _))
  exact congrFun ((W4_arr m ρ c 4).trans h) (ix2 b o)

end Cert.Proof.KernelIdeal
-- ==== Proof.RefBins.lean ====
/-
  The reference's sixteen quantiles of each column: where the linear grid falls among the 16384 rows, the columns sorted, and the
  weighted mean of the two rows around each place. They are the quantiles the kernel's first call stores.
-/
module

public import proofs.«01_k».proof.Proof.Result
public import proofs.«01_k».proof.Proof.Gen.ReferenceIdeal
public import proofs.«01_k».proof.Proof.Gen.ReferenceIdeal.Read
public import Idealize.ShloMosaic.Lib.Pointwise
public import Idealize.ShloMosaic.Lib.SortFacts
public import Idealize.ShloMosaic.Lib.Routing.Ops
public import Mathlib.Algebra.Order.Floor.Ring

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic
open Idealize.SL.Sem
open Cert.Proof.Bitonic

/-- The literals of the reference's grid. -/
theorem lit_15 : (Ideal.ofBits .f32 0x41700000#32 : EReal) = ((15 : ℝ) : EReal) := by
  simp [Ideal.ofBits, Ideal.ieee, -EReal.coe_mul]; norm_num
theorem lit_16384 : (Ideal.ofBits .f32 0x46800000#32 : EReal) = ((16384 : ℝ) : EReal) := by
  simp [Ideal.ofBits, Ideal.ieee, -EReal.coe_mul]; norm_num

/-- A word of a small number, as a value. -/
theorem sitofp_eq (t : ℕ) (ht : t < 2 ^ 31) : (FloatOps.sitofp (F := Ideal) .f32 (BitVec.ofNat 32 t) : EReal) = ((t : ℝ) : EReal) := by
  show (((BitVec.ofNat 32 t).toInt : ℝ) : EReal) = _
  have h : (BitVec.ofNat 32 t).toInt = t := by
    rw [BitVec.toInt_eq_toNat_of_lt (by rw [BitVec.toNat_ofNat]; omega), BitVec.toNat_ofNat]
    omega
  rw [h]
  norm_cast

/-- The grid's `t`-th point is `t / 15`. -/
theorem grid_apply (t : Fin 16) : val_main_v0 (F := Ideal) (ix1 t) = (((t : ℕ) / 15 : ℝ) : EReal) := by
  have ht := t.2
  pointwise [val_main_v0, val_main_call0_v15, val_main_call0_v16, val_main_call0_v14, val_main_call0_v13, val_main_call0_v12, val_main_call0_v11, val_main_call0_v10, val_main_call0_v9, val_main_call0_v8, val_main_call0_v7, val_main_call0_v6, val_main_call0_v5, val_main_call0_v4, val_main_call0_v1, val_main_call0_v0, val_main_cst, val_main_cst_0, val_main_call0_cst_0, val_main_call0_cst_1]
  split
  · rw [sitofp_eq _ (by omega)]
    have h0 : (id (constant (F := Ideal) S_ .f32 0x00000000#32) ix0 : EReal) = 0 := Ideal.ofBits_zero_f32
    have h1 : (id (constant (F := Ideal) S_ .f32 0x3F800000#32) ix0 : EReal) = 1 := Ideal.ofBits_one_f32
    rw [h0, h1, lit_15, Ideal.div_coe (by norm_num), ← EReal.coe_mul, zero_mul, zero_add, one_mul, mul_one_div]
  · show (Ideal.ofBits .f32 0x3F800000#32 : EReal) = _
    rw [Ideal.ofBits_one_f32, show t.val = 15 by omega]
    norm_num

/-- The grid's points among the rows: the place of the `t`-th is `5461 t / 5`. -/
theorem place_apply (t : Fin 16) : val_main_call1_v7 (F := Ideal) (ix1 t) = (((5461 * t : ℕ) / 5 : ℝ) : EReal) := by
  show (val_main_v0 (F := Ideal) (ix1 t) : EReal) * ((Ideal.ofBits .f32 0x46800000#32 : EReal) - (Ideal.ofBits .f32 0x3F800000#32 : EReal)) = _
  rw [grid_apply, lit_16384, Ideal.ofBits_one_f32, ← EReal.coe_one, ← EReal.coe_sub, ← EReal.coe_mul]
  refine congrArg Real.toEReal ?_
  push_cast
  ring

/-- The floor and the ceiling of a fifth of a number. -/
theorem floor_fifth (n : ℕ) : ⌊(n / 5 : ℝ)⌋ = ((n / 5 : ℕ) : ℤ) := by
  have h1 : 5 * (n / 5) ≤ n := by omega
  have h2 : n < 5 * (n / 5) + 5 := by omega
  have h1' : (5 : ℝ) * ((n / 5 : ℕ) : ℝ) ≤ n := by exact_mod_cast h1
  have h2' : (n : ℝ) < 5 * ((n / 5 : ℕ) : ℝ) + 5 := by exact_mod_cast h2
  rw [Int.floor_eq_iff, Int.cast_natCast]
  constructor <;> linarith
theorem ceil_fifth (n : ℕ) : ⌈(n / 5 : ℝ)⌉ = (((n + 4) / 5 : ℕ) : ℤ) := by
  have h1 : 5 * ((n + 4) / 5) < n + 5 := by omega
  have h2 : n ≤ 5 * ((n + 4) / 5) := by omega
  have h1' : (5 : ℝ) * (((n + 4) / 5 : ℕ) : ℝ) < n + 5 := by exact_mod_cast h1
  have h2' : (n : ℝ) ≤ 5 * (((n + 4) / 5 : ℕ) : ℝ) := by exact_mod_cast h2
  rw [Int.ceil_eq_iff, Int.cast_natCast]
  constructor <;> linarith

/-- The row below the `t`-th place, and the row above. -/
theorem below_apply (t : Fin 16) : val_main_call1_v8 (F := Ideal) (ix1 t) = (((5461 * t / 5 : ℕ) : ℝ) : EReal) := by
  show Ideal.liftRound Int.floor (val_main_call1_v7 (F := Ideal) (ix1 t)) = _
  rw [place_apply]
  show (((⌊(((5461 * t : ℕ) : ℝ) / 5 : ℝ)⌋ : ℤ) : ℝ) : EReal) = _
  rw [floor_fifth, Int.cast_natCast]
theorem above_apply (t : Fin 16) : val_main_call1_v9 (F := Ideal) (ix1 t) = ((((5461 * t + 4) / 5 : ℕ) : ℝ) : EReal) := by
  show Ideal.liftRound Int.ceil (val_main_call1_v7 (F := Ideal) (ix1 t)) = _
  rw [place_apply]
  show (((⌈(((5461 * t : ℕ) : ℝ) / 5 : ℝ)⌉ : ℤ) : ℝ) : EReal) = _
  rw [ceil_fifth, Int.cast_natCast]

/-- The fraction the place leaves over the row below, and what it lacks of one. -/
theorem over_apply (t : Fin 16) : val_main_call1_v10 (F := Ideal) (ix1 t) = (((t % 5 : ℕ) / 5 : ℝ) : EReal) := by
  show (val_main_call1_v7 (F := Ideal) (ix1 t) : EReal) - (val_main_call1_v8 (F := Ideal) (ix1 t) : EReal) = _
  rw [place_apply, below_apply, ← EReal.coe_sub]
  have h : 5461 * t.val = 5 * (5461 * t / 5) + t % 5 := by omega
  have h' : ((5461 * t.val : ℕ) : ℝ) = 5 * ((5461 * t.val / 5 : ℕ) : ℝ) + ((t % 5 : ℕ) : ℝ) := by exact_mod_cast h
  congr 1
  linarith
theorem under_apply (t : Fin 16) : val_main_call1_v12 (F := Ideal) (ix1 t) = ((1 - (t % 5 : ℕ) / 5 : ℝ) : EReal) := by
  show (Ideal.ofBits .f32 0x3F800000#32 : EReal) - (val_main_call1_v10 (F := Ideal) (ix1 t) : EReal) = _
  rw [over_apply, Ideal.ofBits_one_f32, ← EReal.coe_one, ← EReal.coe_sub]

/-- A row number clamped among the rows is itself, and so is its word. -/
theorem word_eq (k : ℕ) (hk : k < 16384) :
    Ideal.fptosi 32 (min (max (((k : ℝ) : EReal)) (Ideal.ofBits .f32 0x00000000#32)) ((Ideal.ofBits .f32 0x46800000#32 : EReal) - Ideal.ofBits .f32 0x3F800000#32))
      = BitVec.ofNat 32 k := by
  have h1 : (k : ℝ) ≤ 16383 := by exact_mod_cast Nat.le_of_lt_succ hk
  rw [lit_16384, Ideal.ofBits_one_f32, Ideal.ofBits_zero_f32, ← EReal.coe_one, ← EReal.coe_sub, max_eq_left (EReal.coe_nonneg.mpr (Nat.cast_nonneg k)),
    min_eq_left (EReal.coe_le_coe_iff.mpr (by linarith)), Ideal.fptosi, Ideal.toIntClamped_coe, if_pos (Nat.cast_nonneg k), Int.floor_natCast]
  have h : max (-((2 ^ (32 - 1) : ℕ) : ℤ)) (min (((2 ^ (32 - 1) : ℕ) : ℤ) - 1) (k : ℤ)) = k := by
    norm_num
    omega
  rw [h, BitVec.ofInt_natCast]

theorem lowWord_apply (t : Fin 16) (z : Fin 1) : val_main_call1_v23 (F := Ideal) (ix2 t z) = BitVec.ofNat 32 (5461 * t / 5) := by
  have ht := t.2
  have h := below_apply t
  pointwise [val_main_call1_v23, val_main_call1_v21, val_main_call1_v16]
  rw [h]
  exact word_eq (5461 * t / 5) (by omega)
theorem highWord_apply (t : Fin 16) (z : Fin 1) : val_main_call1_v25 (F := Ideal) (ix2 t z) = BitVec.ofNat 32 ((5461 * t + 4) / 5) := by
  have ht := t.2
  have h := above_apply t
  pointwise [val_main_call1_v25, val_main_call1_v22, val_main_call1_v20]
  rw [h]
  exact word_eq ((5461 * t + 4) / 5) (by omega)

/-- The comparator of the sort is `<`. -/
theorem comparator_eq (a b : EReal) : comparator_f32_d0 (F := Ideal) a b = BitVec.ofBool (decide (a < b)) := by
  have one (a : EReal) : Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0#32)) (FloatOps.ofBits (F := Ideal) .f32 0#32) a) = a := by
    have h1 : FloatOps.cmpf (F := Ideal) (φ := .f32) .une a a = 0#1 := by
      show BitVec.ofBool (decide (a ≠ a)) = _
      simp
    have h2 : FloatOps.cmpf (F := Ideal) (φ := .f32) .oeq a (FloatOps.ofBits (F := Ideal) .f32 0#32) = BitVec.ofBool (decide (a = 0)) := by
      show BitVec.ofBool (decide (a = Ideal.ofBits .f32 0#32)) = _
      rw [Ideal.ofBits_zero_f32]
    rw [h1, h2]
    show Scalar.select (BitVec.ofBool (decide (a = 0))) (Ideal.ofBits .f32 0#32) a = a
    rw [Ideal.ofBits_zero_f32]
    by_cases h : a = 0
    · rw [decide_eq_true h, h]; rfl
    · rw [decide_eq_false h]; rfl
  simp only [comparator_f32_d0]
  exact (congrArg₂ (fun a b : EReal => FloatOps.cmpfTotal (F := Ideal) (φ := .f32) .lt a b) (one a) (one b)).trans rfl

/-- Folding `or` over clear bits leaves a clear bit clear. -/
theorem foldl_none {α : Type} (l : List α) : l.foldl (fun r _ => IntOp.ori r 0#1) 0#1 = 0#1 := by
  induction l with
  | nil => rfl
  | cons a l ih => rwa [List.foldl_cons, show IntOp.ori 0#1 0#1 = 0#1 by decide]

/-- No entry is other than itself, so the mask of the columns to overwrite is empty. -/
theorem masked_eq (x : Vec Ideal S16384x100 .f32) : val_main_call1_v3 (F := Ideal) x = x := by
  funext y
  obtain ⟨i, j, rfl⟩ : ∃ (i : Fin 16384) (j : Fin 100), y = ix2 i j := ⟨y 0, y 1, by blk_ext⟩
  have h0 : val_main_call1_v0 (F := Ideal) x = fun _ => 0#1 := by
    funext i
    show BitVec.ofBool (decide (x i ≠ x i)) = 0#1
    simp
  have h1 : val_main_call1_v1 (F := Ideal) x (ix1 j) = 0#1 := by
    unfold val_main_call1_v1 Host.reduce
    rw [h0]
    exact foldl_none _
  pointwise [val_main_call1_v3, val_main_call1_call0_v1, val_main_call1_call0_v2, val_main_call1_v2]
  rw [h1]
  rfl

/-- A sort of an array's columns, read at an entry. -/
theorem sort_ix2 {α : Type} {N C : ℕ} (cmp : α → α → BitVec 1) (x : (⟨2, ![N, C]⟩ : Shape).Idx → α) (r : Fin N) (j : Fin C) :
    Host.sort ⟨2, ![N, C]⟩ 0 cmp x (ix2 r j) = x (ix2 (sortedFrom (fun k k' => cmp (x (ix2 k j)) (x (ix2 k' j)) == 1#1) r) j) := by
  have hal (k : Fin N) : Shape.Idx.along (s := ⟨2, ![N, C]⟩) (ix2 r j) (0 : Fin 2) k = ix2 k j := by
    funext a
    match a with
    | ⟨0, _⟩ => rfl
    | ⟨1, _⟩ => rfl
  unfold Host.sort
  rw [dif_pos (show 0 < (⟨2, ![N, C]⟩ : Shape).rank from Nat.two_pos)]
  refine (congrArg x (hal _)).trans ?_
  refine congrArg (fun before => x (ix2 (sortedFrom before r) j)) (funext fun k => funext fun k' => ?_)
  exact congrArg₂ (fun a b => cmp (x a) (x b) == 1#1) (hal k) (hal k')

/-- Sorting `2 ^ n` values by `<` arranges them as the network does. -/
theorem sortedFrom_run {n : ℕ} (f : Fin (2 ^ n) → EReal) (g : ℕ → EReal) (hg : ∀ k : Fin (2 ^ n), g k = f k) (r : Fin (2 ^ n)) :
    f (sortedFrom (fun k k' => decide (f k < f k')) r) = run (stages n) g r := by
  let before : Fin (2 ^ n) → Fin (2 ^ n) → Bool := fun k k' => decide (f k < f k')
  let τ : Equiv.Perm (Fin (2 ^ n)) := Equiv.ofBijective (sortedFrom before) ⟨sortedFrom_injective _, sortedFrom_surjective _⟩
  have hτ : Monotone fun m : Fin (2 ^ n) => g (τ m) := by
    intro a b hab
    rcases hab.eq_or_lt with rfl | hlt
    · exact le_rfl
    · have h := sortedFrom_noInversion before before
        (fun a b h => decide_eq_false (not_lt_of_gt (of_decide_eq_true h))) (fun _ _ h => h)
        (fun a b c h1 h2 => decide_eq_false (not_lt.mpr ((not_lt.mp (of_decide_eq_false h1)).trans' (not_lt.mp (of_decide_eq_false h2))))) a b hlt
      exact (hg _).le.trans ((not_lt.mp (of_decide_eq_false h)).trans (hg _).ge)
  exact ((run_stages n g τ hτ r).trans (hg _)).symm

/-- The sorted array holds each column of the argument sorted. -/
theorem sort_apply (x : Vec Ideal S16384x100 .f32) (r : Fin 16384) (j : Fin 100) :
    val_main_call1_v4 (F := Ideal) x (ix2 r j) = KernelIdeal.sortedCol x j r := by
  unfold val_main_call1_v4
  rw [masked_eq]
  refine (sort_ix2 _ x r j).trans ?_
  refine Eq.trans ?_ (sortedFrom_run (n := 14) (fun k => x (ix2 k j)) (KernelIdeal.col x j) (fun k => KernelIdeal.col_of_lt x j k) r)
  refine congrArg (fun before => x (ix2 (sortedFrom before r) j)) (funext fun k => funext fun k' => ?_)
  rw [comparator_eq]
  by_cases h : x (ix2 k j) < x (ix2 k' j)
  · rw [decide_eq_true h]; rfl
  · rw [decide_eq_false h]; rfl

/-- The reference's quantiles. -/
theorem quantile_apply (x : Vec Ideal S16384x100 .f32) (t : Fin 16) (j : Fin 100) :
    val_main_v1 (F := Ideal) x (ix2 t j) = bin (KernelIdeal.sortedCol x j) t := by
  have ht := t.2
  have hlo : val_main_call1_v24 (F := Ideal) x (ix2 t j) = KernelIdeal.sortedCol x j (5461 * t / 5) := by
    unfold val_main_call1_v24
    refine (Routing.gather_row _ rfl rfl rfl rfl rfl _ _ t j ⟨5461 * t / 5, by omega⟩ (lowWord_apply t 0) (by decide)).trans ?_
    exact sort_apply x _ j
  have hhi : val_main_call1_v26 (F := Ideal) x (ix2 t j) = KernelIdeal.sortedCol x j ((5461 * t + 4) / 5) := by
    unfold val_main_call1_v26
    refine (Routing.gather_row _ rfl rfl rfl rfl rfl _ _ t j ⟨(5461 * t + 4) / 5, by omega⟩ (highWord_apply t 0) (by decide)).trans ?_
    exact sort_apply x _ j
  pointwise [val_main_v1, val_main_call1_v29, val_main_call1_v30, val_main_call1_v27, val_main_call1_v28]
  rw [hlo, hhi, over_apply, under_apply]
  rfl

end Cert.Proof.ReferenceIdeal
-- ==== Proof.RefRead.lean ====
/-
  What the reference computes: entry `(b, o)` encodes the argument's value `(b, o / 16)` between two quantiles of that feature's
  sorted column, as the kernel's result does.
-/
module

public import proofs.«01_k».proof.Proof.RefBins

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic
open Idealize.SL.Sem
open Cert.Proof.Bitonic

/-- The margin added to a bin's width is a real above zero. -/
theorem margin : ∃ e : ℝ, 0 < e ∧ (Ideal.ofBits .f32 0x3089705F#32 : EReal) = (e : EReal) := by
  refine ⟨_, ?_, by simp [Ideal.ofBits, Ideal.ieee, -EReal.coe_mul]; rfl⟩
  norm_num

/-- A bin's width with its margin is not zero. -/
theorem width_ne {p q : EReal} (h : p < q) : q - p + Ideal.ofBits .f32 0x3089705F#32 ≠ 0 := by
  obtain ⟨e, he, h'⟩ := margin
  rw [h']
  have h0 : 0 ≤ q - p := (EReal.sub_pos.mpr h).le
  exact ((EReal.coe_pos.mpr he).trans_le (le_add_of_nonneg_left h0)).ne'

/-- The reference's nested choices are the encoding, as the quantiles ascend. -/
theorem code_eq (v p q : EReal) (h : p ≤ q) (n : ℕ) (hn : n ≠ 0) (hn' : n ≤ 15) :
    Scalar.select (IntOp.andi (BitVec.ofBool (decide (p ≤ v))) (BitVec.ofBool (decide (v < q))))
      (Ideal.div (v - p) (q - p + Ideal.ofBits .f32 0x3089705F#32))
      (Scalar.select (IntOp.andi (BitVec.ofBool (decide (q ≤ v))) (BitVec.ofBool (decide (n < 15)))) (1 : EReal) (if v < p then 0 else 0))
      = enc v p q n := by
  unfold enc
  rw [if_neg hn, ite_self]
  by_cases hp : v < p
  · rw [if_pos hp, decide_eq_false (not_le.mpr hp), decide_eq_false (not_le.mpr (hp.trans_le h))]
    by_cases hq : v < q <;> by_cases hl : n < 15 <;> simp only [hq, hl, decide_true, decide_false] <;> rfl
  · rw [if_neg hp, decide_eq_true (not_lt.mp hp)]
    by_cases hq : q ≤ v
    · rw [if_pos hq, decide_eq_true hq, decide_eq_false (not_lt.mpr hq)]
      by_cases hl : n = 15
      · rw [if_pos hl, decide_eq_false (by omega)]; rfl
      · rw [if_neg hl, decide_eq_true (by omega : n < 15)]; rfl
    · have hd := width_ne ((not_lt.mp hp).trans_lt (not_le.mp hq))
      rw [if_neg hq, decide_eq_true (not_le.mp hq)]
      show Ideal.div (v - p) _ = _
      rw [Ideal.div, Ideal.div, if_neg hd, if_neg hd, one_mul]

/-- The test that a bin is not the last. -/
theorem notLast (s : ℕ) (hs : s < 15) : IntOp.cmpi .slt (IntOp.addi 1#32 (BitVec.ofNat 32 s)) 15#32 = BitVec.ofBool (decide (s + 1 < 15)) := by
  interval_cases s <;> rfl

/-- One of the fifteen encodings of a value between two neighbouring quantiles. -/
theorem code_apply (x : Vec Ideal S16384x100 .f32) (b : Fin 16384) (f : Fin 100) (s : Fin 15) :
    val_main_v41 (F := Ideal) x (ix3 b f s) = enc (x (ix2 b f)) (bin (KernelIdeal.sortedCol x f) s) (bin (KernelIdeal.sortedCol x f) (s + 1)) (s + 1) := by
  have hs := s.2
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  rw [quantile_apply, quantile_apply]
  have h := bin_le (g := KernelIdeal.sortedCol x f) (fun i j h h' => run_ascends (KernelIdeal.col x f) 14 h h') s hs
  have e := notLast s hs
  have hb : bin (KernelIdeal.sortedCol x f) (s + 1) = bin (KernelIdeal.sortedCol x f) (1 + s) := by rw [Nat.add_comm]
  rw [hb] at h ⊢
  have c := code_eq (x (ix2 b f)) _ _ h (s + 1) (by omega) (by omega)
  rw [← e] at c
  have h1 : (val_main_call3_v1 (F := Ideal) (ix3 b f s) : EReal) = 1 := Ideal.ofBits_one_f32
  have h2 : (val_main_call2_v1 (F := Ideal) (ix3 b f s) : EReal) = 0 := Ideal.ofBits_zero_f32
  have h3 : (val_main_cst_1 (F := Ideal) ix0 : EReal) = 0 := Ideal.ofBits_zero_f32
  rw [h1, h2, h3]
  exact c

/-- The reference's result. -/
theorem value_apply (x : Vec Ideal S16384x100 .f32) (b : Fin 16384) (o : Fin 1600) :
    val_main_v44 (F := Ideal) x (ix2 b o) = KernelIdeal.encArr x b o := by
  have ho := o.2
  have hb := b.2
  unfold val_main_v44
  rw [shapeCast_apply _ _ (ix2 b o) (ix3 b ⟨o / 16, by omega⟩ ⟨o % 16, by omega⟩) (by
    rw [Shape.rowMajor_val_two, Shape.rowMajor_val_three]
    show (b.val * 100 + o / 16) * 16 + o % 16 = b.val * 1600 + o
    omega)]
  pointwise [val_main_v43, val_main_v42]
  unfold KernelIdeal.encArr
  split
  · rename_i h
    rw [show o.val % 16 = 0 by omega]
    exact Ideal.ofBits_zero_f32
  · rename_i h
    refine (code_apply x b ⟨o / 16, by omega⟩ ⟨o % 16 - 1, by omega⟩).trans ?_
    have h1 : o.val % 16 - 1 + 1 = o % 16 := by omega
    have h2 : (o.val + 15) % 16 = o % 16 - 1 := by omega
    simp only [h1, h2]

end Cert.Proof.ReferenceIdeal
-- ==== Proof.lean ====
/-
  The claims of this directory: both kernel programs and the reference run and leave their argument unchanged, and the
  idealized kernel is the kernel with four named weights, and over the extended reals it computes what the reference does.
-/
module

public import proofs.«01_k».proof.Defs
public import proofs.«01_k».proof.Proof.Run
public import proofs.«01_k».proof.Proof.KernelRun
public import proofs.«01_k».proof.Proof.Result
public import proofs.«01_k».proof.Proof.RefRead
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof

open Idealize.ShloMosaic Idealize.ShloMosaic.TcCoe Idealize.ShloMosaic.Tactic Idealize.SL.Sem

/-- The reference runs, leaves its argument unchanged and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each of the four named weights is at `Bits` the literal it replaced, and at `Ideal` its fraction. -/
theorem preserved : Cert.preserves_Kernel_KernelIdeal :=
  ⟨IdealRules.named_const.statement Cert.KernelIdeal.κ "w4" .f32 0x3F4CCCCD#32 _ rfl,
   IdealRules.named_const.statement Cert.KernelIdeal.κ "w1" .f32 0x3E4CCCCD#32 _ rfl,
   IdealRules.named_const.statement Cert.KernelIdeal.κ "w3" .f32 0x3F19999A#32 _ rfl,
   IdealRules.named_const.statement Cert.KernelIdeal.κ "w2" .f32 0x3ECCCCCD#32 _ rfl⟩

/-- On one argument the idealized kernel and the reference leave the same result: every value encoded between its feature's
    quantiles. -/
theorem algebraic : Cert.algebraic_KernelIdeal_ReferenceIdeal := fun m g m' g' _ hagree =>
  ⟨fun c => KernelIdeal.W4 m g c (Proc.devRef .tc Cert.KernelIdeal.main_v0),
    (θ_run Cert.KernelIdeal.defs _ _).mono
      (fun r h c => ⟨h.1 c _ (KernelIdeal.mem_uc _ (by decide)), (h.1 c _ (KernelIdeal.mem_uc _ (by decide))).trans (KernelIdeal.W4_x m g c)⟩)
      (KernelIdeal.run_main m g),
    (θ_run Cert.ReferenceIdeal.defs _ _).mono
      (fun r h c => ⟨((h c).1.trans (Cert.ReferenceIdeal.Read.val_main_v44_eq m' c)).trans (by
        rw [hagree c]
        funext y
        obtain ⟨b, o, rfl⟩ : ∃ (b : Fin 16384) (o : Fin 1600), y = ix2 b o := ⟨y 0, y 1, by blk_ext⟩
        exact (ReferenceIdeal.value_apply _ b o).trans (KernelIdeal.result_apply m g c b o).symm), (h c).2⟩)
      (Cert.ReferenceIdeal.Value.run (F := Ideal) m' g')⟩

/-- Everything `Defs.lean` claims. -/
theorem claim : Cert.Claim := ⟨Cert.Kernel.Gen.facts, Cert.KernelIdeal.Gen.facts, Cert.ReferenceIdeal.Gen.facts,
  fun m ρ _ => Kernel.frame_run m ρ,
  fun m ρ _ => KernelIdeal.frame_run m ρ,
  frame_reference,
  preserved,
  algebraic⟩

end Cert.Proof

end
